-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite [hPre_finite : Cert.Pre_finite.Facts] (m : (ℓ : Loc Cert.MlaIdeal.nD Cert.MlaIdeal.τ Cert.MlaIdeal.sig) → Buf (Elt Ideal) ℓ) : Prop :=
  ∀ c : Dev Cert.MlaIdeal.nD,
    (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).1 = (fun _ => 1#1)
    ∧ (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.1 = (fun _ => 1#1)
    ∧ (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite [hPre_finite : Cert.Pre_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))).1 = (fun _ => 1#1)
    ∧ (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))).2.1 = (fun _ => 1#1)
    ∧ (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))).2.2 = (fun _ => 1#1)

def Pre_FinP (m : (ℓ : Loc Cert.FinP.nD Cert.FinP.τ Cert.FinP.sig) → Buf (Elt Bits) ℓ) : Prop :=
  True

def Pre_FinPIdeal (m : (ℓ : Loc Cert.FinPIdeal.nD Cert.FinPIdeal.τ Cert.FinPIdeal.sig) → Buf (Elt Ideal) ℓ) : Prop :=
  True

def Pre_FinPRefIdeal (m : (ℓ : Loc Cert.FinPRefIdeal.nD Cert.FinPRefIdeal.τ Cert.FinPRefIdeal.sig) → Buf (Elt Ideal) ℓ) : Prop :=
  True

def Pre_FinS (m : (ℓ : Loc Cert.FinS.nD Cert.FinS.τ Cert.FinS.sig) → Buf (Elt Bits) ℓ) : Prop :=
  True

def Pre_FinSIdeal (m : (ℓ : Loc Cert.FinSIdeal.nD Cert.FinSIdeal.τ Cert.FinSIdeal.sig) → Buf (Elt Ideal) ℓ) : Prop :=
  True

def Pre_FinSRefIdeal (m : (ℓ : Loc Cert.FinSRefIdeal.nD Cert.FinSRefIdeal.τ Cert.FinSRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_finite [hMlaIdeal : Cert.MlaIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlaRefIdeal_pre_finite [hMlaRefIdeal : Cert.MlaRefIdeal.Facts] [hPre_finite : Cert.Pre_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_FinP [hFinP : Cert.FinP.Facts] : Prop :=
  ∀ (m : (ℓ : Loc Cert.FinP.nD Cert.FinP.τ Cert.FinP.sig) → Buf (Elt Bits) ℓ) (g : Dev Cert.FinP.nD → PrngReg), Pre_FinP m →
    θ_run (Cert.FinP.defs (F := Bits)) (onTc (τ := Cert.FinP.τ) (Cert.FinP.main (F := Bits))) ⟨m, fun _ => 0, g⟩ (fun r => (∀ c : Dev Cert.FinP.nD,
      r.2.mem ((c.tc : Thread Cert.FinP.nD Cert.FinP.τ).loc Cert.FinP.main_arg0) = m ((c.tc : Thread Cert.FinP.nD Cert.FinP.τ).loc Cert.FinP.main_arg0)
      ∧ r.2.mem ((c.tc : Thread Cert.FinP.nD Cert.FinP.τ).loc Cert.FinP.main_arg1) = m ((c.tc : Thread Cert.FinP.nD Cert.FinP.τ).loc Cert.FinP.main_arg1)
      ∧ r.2.mem ((c.tc : Thread Cert.FinP.nD Cert.FinP.τ).loc Cert.FinP.main_arg2) = m ((c.tc : Thread Cert.FinP.nD Cert.FinP.τ).loc Cert.FinP.main_arg2)
      ∧ r.2.mem ((c.tc : Thread Cert.FinP.nD Cert.FinP.τ).loc Cert.FinP.main_arg3) = m ((c.tc : Thread Cert.FinP.nD Cert.FinP.τ).loc Cert.FinP.main_arg3)
      ∧ r.2.mem ((c.tc : Thread Cert.FinP.nD Cert.FinP.τ).loc Cert.FinP.main_arg4) = m ((c.tc : Thread Cert.FinP.nD Cert.FinP.τ).loc Cert.FinP.main_arg4)
      ∧ r.2.mem ((c.tc : Thread Cert.FinP.nD Cert.FinP.τ).loc Cert.FinP.main_arg5) = m ((c.tc : Thread Cert.FinP.nD Cert.FinP.τ).loc Cert.FinP.main_arg5)
      ∧ r.2.mem ((c.tc : Thread Cert.FinP.nD Cert.FinP.τ).loc Cert.FinP.main_arg6) = m ((c.tc : Thread Cert.FinP.nD Cert.FinP.τ).loc Cert.FinP.main_arg6)
      ∧ r.2.mem ((c.tc : Thread Cert.FinP.nD Cert.FinP.τ).loc Cert.FinP.main_arg7) = m ((c.tc : Thread Cert.FinP.nD Cert.FinP.τ).loc Cert.FinP.main_arg7)
      ∧ r.2.mem ((c.tc : Thread Cert.FinP.nD Cert.FinP.τ).loc Cert.FinP.main_arg8) = m ((c.tc : Thread Cert.FinP.nD Cert.FinP.τ).loc Cert.FinP.main_arg8)
      ∧ r.2.mem ((c.tc : Thread Cert.FinP.nD Cert.FinP.τ).loc Cert.FinP.main_arg9) = m ((c.tc : Thread Cert.FinP.nD Cert.FinP.τ).loc Cert.FinP.main_arg9))
      ∧ r.2.sem = fun _ => 0)

def quiescent_FinPIdeal [hFinPIdeal : Cert.FinPIdeal.Facts] : Prop :=
  ∀ (m : (ℓ : Loc Cert.FinPIdeal.nD Cert.FinPIdeal.τ Cert.FinPIdeal.sig) → Buf (Elt Ideal) ℓ) (g : Dev Cert.FinPIdeal.nD → PrngReg), Pre_FinPIdeal m →
    θ_run (Cert.FinPIdeal.defs (F := Ideal)) (onTc (τ := Cert.FinPIdeal.τ) (Cert.FinPIdeal.main (F := Ideal))) ⟨m, fun _ => 0, g⟩ (fun r => (∀ c : Dev Cert.FinPIdeal.nD,
      r.2.mem ((c.tc : Thread Cert.FinPIdeal.nD Cert.FinPIdeal.τ).loc Cert.FinPIdeal.main_arg0) = m ((c.tc : Thread Cert.FinPIdeal.nD Cert.FinPIdeal.τ).loc Cert.FinPIdeal.main_arg0)
      ∧ r.2.mem ((c.tc : Thread Cert.FinPIdeal.nD Cert.FinPIdeal.τ).loc Cert.FinPIdeal.main_arg1) = m ((c.tc : Thread Cert.FinPIdeal.nD Cert.FinPIdeal.τ).loc Cert.FinPIdeal.main_arg1)
      ∧ r.2.mem ((c.tc : Thread Cert.FinPIdeal.nD Cert.FinPIdeal.τ).loc Cert.FinPIdeal.main_arg2) = m ((c.tc : Thread Cert.FinPIdeal.nD Cert.FinPIdeal.τ).loc Cert.FinPIdeal.main_arg2)
      ∧ r.2.mem ((c.tc : Thread Cert.FinPIdeal.nD Cert.FinPIdeal.τ).loc Cert.FinPIdeal.main_arg3) = m ((c.tc : Thread Cert.FinPIdeal.nD Cert.FinPIdeal.τ).loc Cert.FinPIdeal.main_arg3)
      ∧ r.2.mem ((c.tc : Thread Cert.FinPIdeal.nD Cert.FinPIdeal.τ).loc Cert.FinPIdeal.main_arg4) = m ((c.tc : Thread Cert.FinPIdeal.nD Cert.FinPIdeal.τ).loc Cert.FinPIdeal.main_arg4)
      ∧ r.2.mem ((c.tc : Thread Cert.FinPIdeal.nD Cert.FinPIdeal.τ).loc Cert.FinPIdeal.main_arg5) = m ((c.tc : Thread Cert.FinPIdeal.nD Cert.FinPIdeal.τ).loc Cert.FinPIdeal.main_arg5)
      ∧ r.2.mem ((c.tc : Thread Cert.FinPIdeal.nD Cert.FinPIdeal.τ).loc Cert.FinPIdeal.main_arg6) = m ((c.tc : Thread Cert.FinPIdeal.nD Cert.FinPIdeal.τ).loc Cert.FinPIdeal.main_arg6)
      ∧ r.2.mem ((c.tc : Thread Cert.FinPIdeal.nD Cert.FinPIdeal.τ).loc Cert.FinPIdeal.main_arg7) = m ((c.tc : Thread Cert.FinPIdeal.nD Cert.FinPIdeal.τ).loc Cert.FinPIdeal.main_arg7)
      ∧ r.2.mem ((c.tc : Thread Cert.FinPIdeal.nD Cert.FinPIdeal.τ).loc Cert.FinPIdeal.main_arg8) = m ((c.tc : Thread Cert.FinPIdeal.nD Cert.FinPIdeal.τ).loc Cert.FinPIdeal.main_arg8)
      ∧ r.2.mem ((c.tc : Thread Cert.FinPIdeal.nD Cert.FinPIdeal.τ).loc Cert.FinPIdeal.main_arg9) = m ((c.tc : Thread Cert.FinPIdeal.nD Cert.FinPIdeal.τ).loc Cert.FinPIdeal.main_arg9))
      ∧ r.2.sem = fun _ => 0)

def quiescent_FinPRefIdeal [hFinPRefIdeal : Cert.FinPRefIdeal.Facts] : Prop :=
  ∀ (m : (ℓ : Loc Cert.FinPRefIdeal.nD Cert.FinPRefIdeal.τ Cert.FinPRefIdeal.sig) → Buf (Elt Ideal) ℓ) (g : Dev Cert.FinPRefIdeal.nD → PrngReg), Pre_FinPRefIdeal m →
    θ_run (Cert.FinPRefIdeal.defs (F := Ideal)) (onTc (τ := Cert.FinPRefIdeal.τ) (Cert.FinPRefIdeal.main (F := Ideal))) ⟨m, fun _ => 0, g⟩ (fun r => (∀ c : Dev Cert.FinPRefIdeal.nD,
      r.2.mem ((c.tc : Thread Cert.FinPRefIdeal.nD Cert.FinPRefIdeal.τ).loc Cert.FinPRefIdeal.main_arg0) = m ((c.tc : Thread Cert.FinPRefIdeal.nD Cert.FinPRefIdeal.τ).loc Cert.FinPRefIdeal.main_arg0)
      ∧ r.2.mem ((c.tc : Thread Cert.FinPRefIdeal.nD Cert.FinPRefIdeal.τ).loc Cert.FinPRefIdeal.main_arg1) = m ((c.tc : Thread Cert.FinPRefIdeal.nD Cert.FinPRefIdeal.τ).loc Cert.FinPRefIdeal.main_arg1)
      ∧ r.2.mem ((c.tc : Thread Cert.FinPRefIdeal.nD Cert.FinPRefIdeal.τ).loc Cert.FinPRefIdeal.main_arg2) = m ((c.tc : Thread Cert.FinPRefIdeal.nD Cert.FinPRefIdeal.τ).loc Cert.FinPRefIdeal.main_arg2)
      ∧ r.2.mem ((c.tc : Thread Cert.FinPRefIdeal.nD Cert.FinPRefIdeal.τ).loc Cert.FinPRefIdeal.main_arg3) = m ((c.tc : Thread Cert.FinPRefIdeal.nD Cert.FinPRefIdeal.τ).loc Cert.FinPRefIdeal.main_arg3)
      ∧ r.2.mem ((c.tc : Thread Cert.FinPRefIdeal.nD Cert.FinPRefIdeal.τ).loc Cert.FinPRefIdeal.main_arg4) = m ((c.tc : Thread Cert.FinPRefIdeal.nD Cert.FinPRefIdeal.τ).loc Cert.FinPRefIdeal.main_arg4)
      ∧ r.2.mem ((c.tc : Thread Cert.FinPRefIdeal.nD Cert.FinPRefIdeal.τ).loc Cert.FinPRefIdeal.main_arg5) = m ((c.tc : Thread Cert.FinPRefIdeal.nD Cert.FinPRefIdeal.τ).loc Cert.FinPRefIdeal.main_arg5)
      ∧ r.2.mem ((c.tc : Thread Cert.FinPRefIdeal.nD Cert.FinPRefIdeal.τ).loc Cert.FinPRefIdeal.main_arg6) = m ((c.tc : Thread Cert.FinPRefIdeal.nD Cert.FinPRefIdeal.τ).loc Cert.FinPRefIdeal.main_arg6)
      ∧ r.2.mem ((c.tc : Thread Cert.FinPRefIdeal.nD Cert.FinPRefIdeal.τ).loc Cert.FinPRefIdeal.main_arg7) = m ((c.tc : Thread Cert.FinPRefIdeal.nD Cert.FinPRefIdeal.τ).loc Cert.FinPRefIdeal.main_arg7)
      ∧ r.2.mem ((c.tc : Thread Cert.FinPRefIdeal.nD Cert.FinPRefIdeal.τ).loc Cert.FinPRefIdeal.main_arg8) = m ((c.tc : Thread Cert.FinPRefIdeal.nD Cert.FinPRefIdeal.τ).loc Cert.FinPRefIdeal.main_arg8)
      ∧ r.2.mem ((c.tc : Thread Cert.FinPRefIdeal.nD Cert.FinPRefIdeal.τ).loc Cert.FinPRefIdeal.main_arg9) = m ((c.tc : Thread Cert.FinPRefIdeal.nD Cert.FinPRefIdeal.τ).loc Cert.FinPRefIdeal.main_arg9))
      ∧ r.2.sem = fun _ => 0)

def quiescent_FinS [hFinS : Cert.FinS.Facts] : Prop :=
  ∀ (m : (ℓ : Loc Cert.FinS.nD Cert.FinS.τ Cert.FinS.sig) → Buf (Elt Bits) ℓ) (g : Dev Cert.FinS.nD → PrngReg), Pre_FinS m →
    θ_run (Cert.FinS.defs (F := Bits)) (onTc (τ := Cert.FinS.τ) (Cert.FinS.main (F := Bits))) ⟨m, fun _ => 0, g⟩ (fun r => (∀ c : Dev Cert.FinS.nD,
      r.2.mem ((c.tc : Thread Cert.FinS.nD Cert.FinS.τ).loc Cert.FinS.main_arg0) = m ((c.tc : Thread Cert.FinS.nD Cert.FinS.τ).loc Cert.FinS.main_arg0)
      ∧ r.2.mem ((c.tc : Thread Cert.FinS.nD Cert.FinS.τ).loc Cert.FinS.main_arg1) = m ((c.tc : Thread Cert.FinS.nD Cert.FinS.τ).loc Cert.FinS.main_arg1)
      ∧ r.2.mem ((c.tc : Thread Cert.FinS.nD Cert.FinS.τ).loc Cert.FinS.main_arg2) = m ((c.tc : Thread Cert.FinS.nD Cert.FinS.τ).loc Cert.FinS.main_arg2)
      ∧ r.2.mem ((c.tc : Thread Cert.FinS.nD Cert.FinS.τ).loc Cert.FinS.main_arg3) = m ((c.tc : Thread Cert.FinS.nD Cert.FinS.τ).loc Cert.FinS.main_arg3)
      ∧ r.2.mem ((c.tc : Thread Cert.FinS.nD Cert.FinS.τ).loc Cert.FinS.main_arg4) = m ((c.tc : Thread Cert.FinS.nD Cert.FinS.τ).loc Cert.FinS.main_arg4)
      ∧ r.2.mem ((c.tc : Thread Cert.FinS.nD Cert.FinS.τ).loc Cert.FinS.main_arg5) = m ((c.tc : Thread Cert.FinS.nD Cert.FinS.τ).loc Cert.FinS.main_arg5)
      ∧ r.2.mem ((c.tc : Thread Cert.FinS.nD Cert.FinS.τ).loc Cert.FinS.main_arg6) = m ((c.tc : Thread Cert.FinS.nD Cert.FinS.τ).loc Cert.FinS.main_arg6)
      ∧ r.2.mem ((c.tc : Thread Cert.FinS.nD Cert.FinS.τ).loc Cert.FinS.main_arg7) = m ((c.tc : Thread Cert.FinS.nD Cert.FinS.τ).loc Cert.FinS.main_arg7)
      ∧ r.2.mem ((c.tc : Thread Cert.FinS.nD Cert.FinS.τ).loc Cert.FinS.main_arg8) = m ((c.tc : Thread Cert.FinS.nD Cert.FinS.τ).loc Cert.FinS.main_arg8)
      ∧ r.2.mem ((c.tc : Thread Cert.FinS.nD Cert.FinS.τ).loc Cert.FinS.main_arg9) = m ((c.tc : Thread Cert.FinS.nD Cert.FinS.τ).loc Cert.FinS.main_arg9))
      ∧ r.2.sem = fun _ => 0)

def quiescent_FinSIdeal [hFinSIdeal : Cert.FinSIdeal.Facts] : Prop :=
  ∀ (m : (ℓ : Loc Cert.FinSIdeal.nD Cert.FinSIdeal.τ Cert.FinSIdeal.sig) → Buf (Elt Ideal) ℓ) (g : Dev Cert.FinSIdeal.nD → PrngReg), Pre_FinSIdeal m →
    θ_run (Cert.FinSIdeal.defs (F := Ideal)) (onTc (τ := Cert.FinSIdeal.τ) (Cert.FinSIdeal.main (F := Ideal))) ⟨m, fun _ => 0, g⟩ (fun r => (∀ c : Dev Cert.FinSIdeal.nD,
      r.2.mem ((c.tc : Thread Cert.FinSIdeal.nD Cert.FinSIdeal.τ).loc Cert.FinSIdeal.main_arg0) = m ((c.tc : Thread Cert.FinSIdeal.nD Cert.FinSIdeal.τ).loc Cert.FinSIdeal.main_arg0)
      ∧ r.2.mem ((c.tc : Thread Cert.FinSIdeal.nD Cert.FinSIdeal.τ).loc Cert.FinSIdeal.main_arg1) = m ((c.tc : Thread Cert.FinSIdeal.nD Cert.FinSIdeal.τ).loc Cert.FinSIdeal.main_arg1)
      ∧ r.2.mem ((c.tc : Thread Cert.FinSIdeal.nD Cert.FinSIdeal.τ).loc Cert.FinSIdeal.main_arg2) = m ((c.tc : Thread Cert.FinSIdeal.nD Cert.FinSIdeal.τ).loc Cert.FinSIdeal.main_arg2)
      ∧ r.2.mem ((c.tc : Thread Cert.FinSIdeal.nD Cert.FinSIdeal.τ).loc Cert.FinSIdeal.main_arg3) = m ((c.tc : Thread Cert.FinSIdeal.nD Cert.FinSIdeal.τ).loc Cert.FinSIdeal.main_arg3)
      ∧ r.2.mem ((c.tc : Thread Cert.FinSIdeal.nD Cert.FinSIdeal.τ).loc Cert.FinSIdeal.main_arg4) = m ((c.tc : Thread Cert.FinSIdeal.nD Cert.FinSIdeal.τ).loc Cert.FinSIdeal.main_arg4)
      ∧ r.2.mem ((c.tc : Thread Cert.FinSIdeal.nD Cert.FinSIdeal.τ).loc Cert.FinSIdeal.main_arg5) = m ((c.tc : Thread Cert.FinSIdeal.nD Cert.FinSIdeal.τ).loc Cert.FinSIdeal.main_arg5)
      ∧ r.2.mem ((c.tc : Thread Cert.FinSIdeal.nD Cert.FinSIdeal.τ).loc Cert.FinSIdeal.main_arg6) = m ((c.tc : Thread Cert.FinSIdeal.nD Cert.FinSIdeal.τ).loc Cert.FinSIdeal.main_arg6)
      ∧ r.2.mem ((c.tc : Thread Cert.FinSIdeal.nD Cert.FinSIdeal.τ).loc Cert.FinSIdeal.main_arg7) = m ((c.tc : Thread Cert.FinSIdeal.nD Cert.FinSIdeal.τ).loc Cert.FinSIdeal.main_arg7)
      ∧ r.2.mem ((c.tc : Thread Cert.FinSIdeal.nD Cert.FinSIdeal.τ).loc Cert.FinSIdeal.main_arg8) = m ((c.tc : Thread Cert.FinSIdeal.nD Cert.FinSIdeal.τ).loc Cert.FinSIdeal.main_arg8)
      ∧ r.2.mem ((c.tc : Thread Cert.FinSIdeal.nD Cert.FinSIdeal.τ).loc Cert.FinSIdeal.main_arg9) = m ((c.tc : Thread Cert.FinSIdeal.nD Cert.FinSIdeal.τ).loc Cert.FinSIdeal.main_arg9))
      ∧ r.2.sem = fun _ => 0)

def quiescent_FinSRefIdeal [hFinSRefIdeal : Cert.FinSRefIdeal.Facts] : Prop :=
  ∀ (m : (ℓ : Loc Cert.FinSRefIdeal.nD Cert.FinSRefIdeal.τ Cert.FinSRefIdeal.sig) → Buf (Elt Ideal) ℓ) (g : Dev Cert.FinSRefIdeal.nD → PrngReg), Pre_FinSRefIdeal m →
    θ_run (Cert.FinSRefIdeal.defs (F := Ideal)) (onTc (τ := Cert.FinSRefIdeal.τ) (Cert.FinSRefIdeal.main (F := Ideal))) ⟨m, fun _ => 0, g⟩ (fun r => (∀ c : Dev Cert.FinSRefIdeal.nD,
      r.2.mem ((c.tc : Thread Cert.FinSRefIdeal.nD Cert.FinSRefIdeal.τ).loc Cert.FinSRefIdeal.main_arg0) = m ((c.tc : Thread Cert.FinSRefIdeal.nD Cert.FinSRefIdeal.τ).loc Cert.FinSRefIdeal.main_arg0)
      ∧ r.2.mem ((c.tc : Thread Cert.FinSRefIdeal.nD Cert.FinSRefIdeal.τ).loc Cert.FinSRefIdeal.main_arg1) = m ((c.tc : Thread Cert.FinSRefIdeal.nD Cert.FinSRefIdeal.τ).loc Cert.FinSRefIdeal.main_arg1)
      ∧ r.2.mem ((c.tc : Thread Cert.FinSRefIdeal.nD Cert.FinSRefIdeal.τ).loc Cert.FinSRefIdeal.main_arg2) = m ((c.tc : Thread Cert.FinSRefIdeal.nD Cert.FinSRefIdeal.τ).loc Cert.FinSRefIdeal.main_arg2)
      ∧ r.2.mem ((c.tc : Thread Cert.FinSRefIdeal.nD Cert.FinSRefIdeal.τ).loc Cert.FinSRefIdeal.main_arg3) = m ((c.tc : Thread Cert.FinSRefIdeal.nD Cert.FinSRefIdeal.τ).loc Cert.FinSRefIdeal.main_arg3)
      ∧ r.2.mem ((c.tc : Thread Cert.FinSRefIdeal.nD Cert.FinSRefIdeal.τ).loc Cert.FinSRefIdeal.main_arg4) = m ((c.tc : Thread Cert.FinSRefIdeal.nD Cert.FinSRefIdeal.τ).loc Cert.FinSRefIdeal.main_arg4)
      ∧ r.2.mem ((c.tc : Thread Cert.FinSRefIdeal.nD Cert.FinSRefIdeal.τ).loc Cert.FinSRefIdeal.main_arg5) = m ((c.tc : Thread Cert.FinSRefIdeal.nD Cert.FinSRefIdeal.τ).loc Cert.FinSRefIdeal.main_arg5)
      ∧ r.2.mem ((c.tc : Thread Cert.FinSRefIdeal.nD Cert.FinSRefIdeal.τ).loc Cert.FinSRefIdeal.main_arg6) = m ((c.tc : Thread Cert.FinSRefIdeal.nD Cert.FinSRefIdeal.τ).loc Cert.FinSRefIdeal.main_arg6)
      ∧ r.2.mem ((c.tc : Thread Cert.FinSRefIdeal.nD Cert.FinSRefIdeal.τ).loc Cert.FinSRefIdeal.main_arg7) = m ((c.tc : Thread Cert.FinSRefIdeal.nD Cert.FinSRefIdeal.τ).loc Cert.FinSRefIdeal.main_arg7)
      ∧ r.2.mem ((c.tc : Thread Cert.FinSRefIdeal.nD Cert.FinSRefIdeal.τ).loc Cert.FinSRefIdeal.main_arg8) = m ((c.tc : Thread Cert.FinSRefIdeal.nD Cert.FinSRefIdeal.τ).loc Cert.FinSRefIdeal.main_arg8)
      ∧ r.2.mem ((c.tc : Thread Cert.FinSRefIdeal.nD Cert.FinSRefIdeal.τ).loc Cert.FinSRefIdeal.main_arg9) = m ((c.tc : Thread Cert.FinSRefIdeal.nD Cert.FinSRefIdeal.τ).loc Cert.FinSRefIdeal.main_arg9))
      ∧ r.2.sem = fun _ => 0)

def preserves_Mla_MlaIdeal : Prop :=
  True

def algebraic_MlaIdeal_MlaRefIdeal_pre_finite [hMlaIdeal : Cert.MlaIdeal.Facts] [hMlaRefIdeal : Cert.MlaRefIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v33)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v33) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v32) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_FinP_FinPIdeal : Prop :=
  True

def algebraic_FinPIdeal_FinPRefIdeal [hFinPIdeal : Cert.FinPIdeal.Facts] [hFinPRefIdeal : Cert.FinPRefIdeal.Facts] : Prop :=
  ∀ (m : (ℓ : Loc Cert.FinPIdeal.nD Cert.FinPIdeal.τ Cert.FinPIdeal.sig) → Buf (Elt Ideal) ℓ) (g : Dev Cert.FinPIdeal.nD → PrngReg)
    (m' : (ℓ : Loc Cert.FinPRefIdeal.nD Cert.FinPRefIdeal.τ Cert.FinPRefIdeal.sig) → Buf (Elt Ideal) ℓ) (g' : Dev Cert.FinPRefIdeal.nD → PrngReg), Pre_FinPIdeal m →
    (∀ c : Dev Cert.FinPIdeal.nD,
      m' ((c.tc : Thread Cert.FinPRefIdeal.nD Cert.FinPRefIdeal.τ).loc Cert.FinPRefIdeal.main_arg0) = m ((c.tc : Thread Cert.FinPIdeal.nD Cert.FinPIdeal.τ).loc Cert.FinPIdeal.main_arg0)
      ∧ m' ((c.tc : Thread Cert.FinPRefIdeal.nD Cert.FinPRefIdeal.τ).loc Cert.FinPRefIdeal.main_arg1) = m ((c.tc : Thread Cert.FinPIdeal.nD Cert.FinPIdeal.τ).loc Cert.FinPIdeal.main_arg1)
      ∧ m' ((c.tc : Thread Cert.FinPRefIdeal.nD Cert.FinPRefIdeal.τ).loc Cert.FinPRefIdeal.main_arg2) = m ((c.tc : Thread Cert.FinPIdeal.nD Cert.FinPIdeal.τ).loc Cert.FinPIdeal.main_arg2)
      ∧ m' ((c.tc : Thread Cert.FinPRefIdeal.nD Cert.FinPRefIdeal.τ).loc Cert.FinPRefIdeal.main_arg3) = m ((c.tc : Thread Cert.FinPIdeal.nD Cert.FinPIdeal.τ).loc Cert.FinPIdeal.main_arg3)
      ∧ m' ((c.tc : Thread Cert.FinPRefIdeal.nD Cert.FinPRefIdeal.τ).loc Cert.FinPRefIdeal.main_arg4) = m ((c.tc : Thread Cert.FinPIdeal.nD Cert.FinPIdeal.τ).loc Cert.FinPIdeal.main_arg4)
      ∧ m' ((c.tc : Thread Cert.FinPRefIdeal.nD Cert.FinPRefIdeal.τ).loc Cert.FinPRefIdeal.main_arg5) = m ((c.tc : Thread Cert.FinPIdeal.nD Cert.FinPIdeal.τ).loc Cert.FinPIdeal.main_arg5)
      ∧ m' ((c.tc : Thread Cert.FinPRefIdeal.nD Cert.FinPRefIdeal.τ).loc Cert.FinPRefIdeal.main_arg6) = m ((c.tc : Thread Cert.FinPIdeal.nD Cert.FinPIdeal.τ).loc Cert.FinPIdeal.main_arg6)
      ∧ m' ((c.tc : Thread Cert.FinPRefIdeal.nD Cert.FinPRefIdeal.τ).loc Cert.FinPRefIdeal.main_arg7) = m ((c.tc : Thread Cert.FinPIdeal.nD Cert.FinPIdeal.τ).loc Cert.FinPIdeal.main_arg7)
      ∧ m' ((c.tc : Thread Cert.FinPRefIdeal.nD Cert.FinPRefIdeal.τ).loc Cert.FinPRefIdeal.main_arg8) = m ((c.tc : Thread Cert.FinPIdeal.nD Cert.FinPIdeal.τ).loc Cert.FinPIdeal.main_arg8)
      ∧ m' ((c.tc : Thread Cert.FinPRefIdeal.nD Cert.FinPRefIdeal.τ).loc Cert.FinPRefIdeal.main_arg9) = m ((c.tc : Thread Cert.FinPIdeal.nD Cert.FinPIdeal.τ).loc Cert.FinPIdeal.main_arg9)) →
    ∃ (v0 : (c : Dev Cert.FinPIdeal.nD) → Buf (Elt Ideal) ((c.tc : Thread Cert.FinPIdeal.nD Cert.FinPIdeal.τ).loc Cert.FinPIdeal.main_v40)),
      θ_run (Cert.FinPIdeal.defs (F := Ideal)) (onTc (τ := Cert.FinPIdeal.τ) (Cert.FinPIdeal.main (F := Ideal))) ⟨m, fun _ => 0, g⟩ (fun r => ∀ c : Dev Cert.FinPIdeal.nD,
          r.2.mem ((c.tc : Thread Cert.FinPIdeal.nD Cert.FinPIdeal.τ).loc Cert.FinPIdeal.main_v40) = v0 c
          ∧ r.2.mem ((c.tc : Thread Cert.FinPIdeal.nD Cert.FinPIdeal.τ).loc Cert.FinPIdeal.main_arg0) = m ((c.tc : Thread Cert.FinPIdeal.nD Cert.FinPIdeal.τ).loc Cert.FinPIdeal.main_arg0)
          ∧ r.2.mem ((c.tc : Thread Cert.FinPIdeal.nD Cert.FinPIdeal.τ).loc Cert.FinPIdeal.main_arg1) = m ((c.tc : Thread Cert.FinPIdeal.nD Cert.FinPIdeal.τ).loc Cert.FinPIdeal.main_arg1)
          ∧ r.2.mem ((c.tc : Thread Cert.FinPIdeal.nD Cert.FinPIdeal.τ).loc Cert.FinPIdeal.main_arg2) = m ((c.tc : Thread Cert.FinPIdeal.nD Cert.FinPIdeal.τ).loc Cert.FinPIdeal.main_arg2)
          ∧ r.2.mem ((c.tc : Thread Cert.FinPIdeal.nD Cert.FinPIdeal.τ).loc Cert.FinPIdeal.main_arg3) = m ((c.tc : Thread Cert.FinPIdeal.nD Cert.FinPIdeal.τ).loc Cert.FinPIdeal.main_arg3)
          ∧ r.2.mem ((c.tc : Thread Cert.FinPIdeal.nD Cert.FinPIdeal.τ).loc Cert.FinPIdeal.main_arg4) = m ((c.tc : Thread Cert.FinPIdeal.nD Cert.FinPIdeal.τ).loc Cert.FinPIdeal.main_arg4)
          ∧ r.2.mem ((c.tc : Thread Cert.FinPIdeal.nD Cert.FinPIdeal.τ).loc Cert.FinPIdeal.main_arg5) = m ((c.tc : Thread Cert.FinPIdeal.nD Cert.FinPIdeal.τ).loc Cert.FinPIdeal.main_arg5)
          ∧ r.2.mem ((c.tc : Thread Cert.FinPIdeal.nD Cert.FinPIdeal.τ).loc Cert.FinPIdeal.main_arg6) = m ((c.tc : Thread Cert.FinPIdeal.nD Cert.FinPIdeal.τ).loc Cert.FinPIdeal.main_arg6)
          ∧ r.2.mem ((c.tc : Thread Cert.FinPIdeal.nD Cert.FinPIdeal.τ).loc Cert.FinPIdeal.main_arg7) = m ((c.tc : Thread Cert.FinPIdeal.nD Cert.FinPIdeal.τ).loc Cert.FinPIdeal.main_arg7)
          ∧ r.2.mem ((c.tc : Thread Cert.FinPIdeal.nD Cert.FinPIdeal.τ).loc Cert.FinPIdeal.main_arg8) = m ((c.tc : Thread Cert.FinPIdeal.nD Cert.FinPIdeal.τ).loc Cert.FinPIdeal.main_arg8)
          ∧ r.2.mem ((c.tc : Thread Cert.FinPIdeal.nD Cert.FinPIdeal.τ).loc Cert.FinPIdeal.main_arg9) = m ((c.tc : Thread Cert.FinPIdeal.nD Cert.FinPIdeal.τ).loc Cert.FinPIdeal.main_arg9))
      ∧ θ_run (Cert.FinPRefIdeal.defs (F := Ideal)) (onTc (τ := Cert.FinPRefIdeal.τ) (Cert.FinPRefIdeal.main (F := Ideal))) ⟨m', fun _ => 0, g'⟩ (fun r => ∀ c : Dev Cert.FinPRefIdeal.nD,
          r.2.mem ((c.tc : Thread Cert.FinPRefIdeal.nD Cert.FinPRefIdeal.τ).loc Cert.FinPRefIdeal.main_v25) = v0 c
          ∧ r.2.mem ((c.tc : Thread Cert.FinPRefIdeal.nD Cert.FinPRefIdeal.τ).loc Cert.FinPRefIdeal.main_arg0) = m' ((c.tc : Thread Cert.FinPRefIdeal.nD Cert.FinPRefIdeal.τ).loc Cert.FinPRefIdeal.main_arg0)
          ∧ r.2.mem ((c.tc : Thread Cert.FinPRefIdeal.nD Cert.FinPRefIdeal.τ).loc Cert.FinPRefIdeal.main_arg1) = m' ((c.tc : Thread Cert.FinPRefIdeal.nD Cert.FinPRefIdeal.τ).loc Cert.FinPRefIdeal.main_arg1)
          ∧ r.2.mem ((c.tc : Thread Cert.FinPRefIdeal.nD Cert.FinPRefIdeal.τ).loc Cert.FinPRefIdeal.main_arg2) = m' ((c.tc : Thread Cert.FinPRefIdeal.nD Cert.FinPRefIdeal.τ).loc Cert.FinPRefIdeal.main_arg2)
          ∧ r.2.mem ((c.tc : Thread Cert.FinPRefIdeal.nD Cert.FinPRefIdeal.τ).loc Cert.FinPRefIdeal.main_arg3) = m' ((c.tc : Thread Cert.FinPRefIdeal.nD Cert.FinPRefIdeal.τ).loc Cert.FinPRefIdeal.main_arg3)
          ∧ r.2.mem ((c.tc : Thread Cert.FinPRefIdeal.nD Cert.FinPRefIdeal.τ).loc Cert.FinPRefIdeal.main_arg4) = m' ((c.tc : Thread Cert.FinPRefIdeal.nD Cert.FinPRefIdeal.τ).loc Cert.FinPRefIdeal.main_arg4)
          ∧ r.2.mem ((c.tc : Thread Cert.FinPRefIdeal.nD Cert.FinPRefIdeal.τ).loc Cert.FinPRefIdeal.main_arg5) = m' ((c.tc : Thread Cert.FinPRefIdeal.nD Cert.FinPRefIdeal.τ).loc Cert.FinPRefIdeal.main_arg5)
          ∧ r.2.mem ((c.tc : Thread Cert.FinPRefIdeal.nD Cert.FinPRefIdeal.τ).loc Cert.FinPRefIdeal.main_arg6) = m' ((c.tc : Thread Cert.FinPRefIdeal.nD Cert.FinPRefIdeal.τ).loc Cert.FinPRefIdeal.main_arg6)
          ∧ r.2.mem ((c.tc : Thread Cert.FinPRefIdeal.nD Cert.FinPRefIdeal.τ).loc Cert.FinPRefIdeal.main_arg7) = m' ((c.tc : Thread Cert.FinPRefIdeal.nD Cert.FinPRefIdeal.τ).loc Cert.FinPRefIdeal.main_arg7)
          ∧ r.2.mem ((c.tc : Thread Cert.FinPRefIdeal.nD Cert.FinPRefIdeal.τ).loc Cert.FinPRefIdeal.main_arg8) = m' ((c.tc : Thread Cert.FinPRefIdeal.nD Cert.FinPRefIdeal.τ).loc Cert.FinPRefIdeal.main_arg8)
          ∧ r.2.mem ((c.tc : Thread Cert.FinPRefIdeal.nD Cert.FinPRefIdeal.τ).loc Cert.FinPRefIdeal.main_arg9) = m' ((c.tc : Thread Cert.FinPRefIdeal.nD Cert.FinPRefIdeal.τ).loc Cert.FinPRefIdeal.main_arg9))

def preserves_FinS_FinSIdeal : Prop :=
  True

def algebraic_FinSIdeal_FinSRefIdeal [hFinSIdeal : Cert.FinSIdeal.Facts] [hFinSRefIdeal : Cert.FinSRefIdeal.Facts] : Prop :=
  ∀ (m : (ℓ : Loc Cert.FinSIdeal.nD Cert.FinSIdeal.τ Cert.FinSIdeal.sig) → Buf (Elt Ideal) ℓ) (g : Dev Cert.FinSIdeal.nD → PrngReg)
    (m' : (ℓ : Loc Cert.FinSRefIdeal.nD Cert.FinSRefIdeal.τ Cert.FinSRefIdeal.sig) → Buf (Elt Ideal) ℓ) (g' : Dev Cert.FinSRefIdeal.nD → PrngReg), Pre_FinSIdeal m →
    (∀ c : Dev Cert.FinSIdeal.nD,
      m' ((c.tc : Thread Cert.FinSRefIdeal.nD Cert.FinSRefIdeal.τ).loc Cert.FinSRefIdeal.main_arg0) = m ((c.tc : Thread Cert.FinSIdeal.nD Cert.FinSIdeal.τ).loc Cert.FinSIdeal.main_arg0)
      ∧ m' ((c.tc : Thread Cert.FinSRefIdeal.nD Cert.FinSRefIdeal.τ).loc Cert.FinSRefIdeal.main_arg1) = m ((c.tc : Thread Cert.FinSIdeal.nD Cert.FinSIdeal.τ).loc Cert.FinSIdeal.main_arg1)
      ∧ m' ((c.tc : Thread Cert.FinSRefIdeal.nD Cert.FinSRefIdeal.τ).loc Cert.FinSRefIdeal.main_arg2) = m ((c.tc : Thread Cert.FinSIdeal.nD Cert.FinSIdeal.τ).loc Cert.FinSIdeal.main_arg2)
      ∧ m' ((c.tc : Thread Cert.FinSRefIdeal.nD Cert.FinSRefIdeal.τ).loc Cert.FinSRefIdeal.main_arg3) = m ((c.tc : Thread Cert.FinSIdeal.nD Cert.FinSIdeal.τ).loc Cert.FinSIdeal.main_arg3)
      ∧ m' ((c.tc : Thread Cert.FinSRefIdeal.nD Cert.FinSRefIdeal.τ).loc Cert.FinSRefIdeal.main_arg4) = m ((c.tc : Thread Cert.FinSIdeal.nD Cert.FinSIdeal.τ).loc Cert.FinSIdeal.main_arg4)
      ∧ m' ((c.tc : Thread Cert.FinSRefIdeal.nD Cert.FinSRefIdeal.τ).loc Cert.FinSRefIdeal.main_arg5) = m ((c.tc : Thread Cert.FinSIdeal.nD Cert.FinSIdeal.τ).loc Cert.FinSIdeal.main_arg5)
      ∧ m' ((c.tc : Thread Cert.FinSRefIdeal.nD Cert.FinSRefIdeal.τ).loc Cert.FinSRefIdeal.main_arg6) = m ((c.tc : Thread Cert.FinSIdeal.nD Cert.FinSIdeal.τ).loc Cert.FinSIdeal.main_arg6)
      ∧ m' ((c.tc : Thread Cert.FinSRefIdeal.nD Cert.FinSRefIdeal.τ).loc Cert.FinSRefIdeal.main_arg7) = m ((c.tc : Thread Cert.FinSIdeal.nD Cert.FinSIdeal.τ).loc Cert.FinSIdeal.main_arg7)
      ∧ m' ((c.tc : Thread Cert.FinSRefIdeal.nD Cert.FinSRefIdeal.τ).loc Cert.FinSRefIdeal.main_arg8) = m ((c.tc : Thread Cert.FinSIdeal.nD Cert.FinSIdeal.τ).loc Cert.FinSIdeal.main_arg8)
      ∧ m' ((c.tc : Thread Cert.FinSRefIdeal.nD Cert.FinSRefIdeal.τ).loc Cert.FinSRefIdeal.main_arg9) = m ((c.tc : Thread Cert.FinSIdeal.nD Cert.FinSIdeal.τ).loc Cert.FinSIdeal.main_arg9)) →
    ∃ (v0 : (c : Dev Cert.FinSIdeal.nD) → Buf (Elt Ideal) ((c.tc : Thread Cert.FinSIdeal.nD Cert.FinSIdeal.τ).loc Cert.FinSIdeal.main_v40)),
      θ_run (Cert.FinSIdeal.defs (F := Ideal)) (onTc (τ := Cert.FinSIdeal.τ) (Cert.FinSIdeal.main (F := Ideal))) ⟨m, fun _ => 0, g⟩ (fun r => ∀ c : Dev Cert.FinSIdeal.nD,
          r.2.mem ((c.tc : Thread Cert.FinSIdeal.nD Cert.FinSIdeal.τ).loc Cert.FinSIdeal.main_v40) = v0 c
          ∧ r.2.mem ((c.tc : Thread Cert.FinSIdeal.nD Cert.FinSIdeal.τ).loc Cert.FinSIdeal.main_arg0) = m ((c.tc : Thread Cert.FinSIdeal.nD Cert.FinSIdeal.τ).loc Cert.FinSIdeal.main_arg0)
          ∧ r.2.mem ((c.tc : Thread Cert.FinSIdeal.nD Cert.FinSIdeal.τ).loc Cert.FinSIdeal.main_arg1) = m ((c.tc : Thread Cert.FinSIdeal.nD Cert.FinSIdeal.τ).loc Cert.FinSIdeal.main_arg1)
          ∧ r.2.mem ((c.tc : Thread Cert.FinSIdeal.nD Cert.FinSIdeal.τ).loc Cert.FinSIdeal.main_arg2) = m ((c.tc : Thread Cert.FinSIdeal.nD Cert.FinSIdeal.τ).loc Cert.FinSIdeal.main_arg2)
          ∧ r.2.mem ((c.tc : Thread Cert.FinSIdeal.nD Cert.FinSIdeal.τ).loc Cert.FinSIdeal.main_arg3) = m ((c.tc : Thread Cert.FinSIdeal.nD Cert.FinSIdeal.τ).loc Cert.FinSIdeal.main_arg3)
          ∧ r.2.mem ((c.tc : Thread Cert.FinSIdeal.nD Cert.FinSIdeal.τ).loc Cert.FinSIdeal.main_arg4) = m ((c.tc : Thread Cert.FinSIdeal.nD Cert.FinSIdeal.τ).loc Cert.FinSIdeal.main_arg4)
          ∧ r.2.mem ((c.tc : Thread Cert.FinSIdeal.nD Cert.FinSIdeal.τ).loc Cert.FinSIdeal.main_arg5) = m ((c.tc : Thread Cert.FinSIdeal.nD Cert.FinSIdeal.τ).loc Cert.FinSIdeal.main_arg5)
          ∧ r.2.mem ((c.tc : Thread Cert.FinSIdeal.nD Cert.FinSIdeal.τ).loc Cert.FinSIdeal.main_arg6) = m ((c.tc : Thread Cert.FinSIdeal.nD Cert.FinSIdeal.τ).loc Cert.FinSIdeal.main_arg6)
          ∧ r.2.mem ((c.tc : Thread Cert.FinSIdeal.nD Cert.FinSIdeal.τ).loc Cert.FinSIdeal.main_arg7) = m ((c.tc : Thread Cert.FinSIdeal.nD Cert.FinSIdeal.τ).loc Cert.FinSIdeal.main_arg7)
          ∧ r.2.mem ((c.tc : Thread Cert.FinSIdeal.nD Cert.FinSIdeal.τ).loc Cert.FinSIdeal.main_arg8) = m ((c.tc : Thread Cert.FinSIdeal.nD Cert.FinSIdeal.τ).loc Cert.FinSIdeal.main_arg8)
          ∧ r.2.mem ((c.tc : Thread Cert.FinSIdeal.nD Cert.FinSIdeal.τ).loc Cert.FinSIdeal.main_arg9) = m ((c.tc : Thread Cert.FinSIdeal.nD Cert.FinSIdeal.τ).loc Cert.FinSIdeal.main_arg9))
      ∧ θ_run (Cert.FinSRefIdeal.defs (F := Ideal)) (onTc (τ := Cert.FinSRefIdeal.τ) (Cert.FinSRefIdeal.main (F := Ideal))) ⟨m', fun _ => 0, g'⟩ (fun r => ∀ c : Dev Cert.FinSRefIdeal.nD,
          r.2.mem ((c.tc : Thread Cert.FinSRefIdeal.nD Cert.FinSRefIdeal.τ).loc Cert.FinSRefIdeal.main_v25) = v0 c
          ∧ r.2.mem ((c.tc : Thread Cert.FinSRefIdeal.nD Cert.FinSRefIdeal.τ).loc Cert.FinSRefIdeal.main_arg0) = m' ((c.tc : Thread Cert.FinSRefIdeal.nD Cert.FinSRefIdeal.τ).loc Cert.FinSRefIdeal.main_arg0)
          ∧ r.2.mem ((c.tc : Thread Cert.FinSRefIdeal.nD Cert.FinSRefIdeal.τ).loc Cert.FinSRefIdeal.main_arg1) = m' ((c.tc : Thread Cert.FinSRefIdeal.nD Cert.FinSRefIdeal.τ).loc Cert.FinSRefIdeal.main_arg1)
          ∧ r.2.mem ((c.tc : Thread Cert.FinSRefIdeal.nD Cert.FinSRefIdeal.τ).loc Cert.FinSRefIdeal.main_arg2) = m' ((c.tc : Thread Cert.FinSRefIdeal.nD Cert.FinSRefIdeal.τ).loc Cert.FinSRefIdeal.main_arg2)
          ∧ r.2.mem ((c.tc : Thread Cert.FinSRefIdeal.nD Cert.FinSRefIdeal.τ).loc Cert.FinSRefIdeal.main_arg3) = m' ((c.tc : Thread Cert.FinSRefIdeal.nD Cert.FinSRefIdeal.τ).loc Cert.FinSRefIdeal.main_arg3)
          ∧ r.2.mem ((c.tc : Thread Cert.FinSRefIdeal.nD Cert.FinSRefIdeal.τ).loc Cert.FinSRefIdeal.main_arg4) = m' ((c.tc : Thread Cert.FinSRefIdeal.nD Cert.FinSRefIdeal.τ).loc Cert.FinSRefIdeal.main_arg4)
          ∧ r.2.mem ((c.tc : Thread Cert.FinSRefIdeal.nD Cert.FinSRefIdeal.τ).loc Cert.FinSRefIdeal.main_arg5) = m' ((c.tc : Thread Cert.FinSRefIdeal.nD Cert.FinSRefIdeal.τ).loc Cert.FinSRefIdeal.main_arg5)
          ∧ r.2.mem ((c.tc : Thread Cert.FinSRefIdeal.nD Cert.FinSRefIdeal.τ).loc Cert.FinSRefIdeal.main_arg6) = m' ((c.tc : Thread Cert.FinSRefIdeal.nD Cert.FinSRefIdeal.τ).loc Cert.FinSRefIdeal.main_arg6)
          ∧ r.2.mem ((c.tc : Thread Cert.FinSRefIdeal.nD Cert.FinSRefIdeal.τ).loc Cert.FinSRefIdeal.main_arg7) = m' ((c.tc : Thread Cert.FinSRefIdeal.nD Cert.FinSRefIdeal.τ).loc Cert.FinSRefIdeal.main_arg7)
          ∧ r.2.mem ((c.tc : Thread Cert.FinSRefIdeal.nD Cert.FinSRefIdeal.τ).loc Cert.FinSRefIdeal.main_arg8) = m' ((c.tc : Thread Cert.FinSRefIdeal.nD Cert.FinSRefIdeal.τ).loc Cert.FinSRefIdeal.main_arg8)
          ∧ r.2.mem ((c.tc : Thread Cert.FinSRefIdeal.nD Cert.FinSRefIdeal.τ).loc Cert.FinSRefIdeal.main_arg9) = m' ((c.tc : Thread Cert.FinSRefIdeal.nD Cert.FinSRefIdeal.τ).loc Cert.FinSRefIdeal.main_arg9))

def Claim : Prop :=
  ∃ (hMla : Cert.Mla.Facts) (hMlaIdeal : Cert.MlaIdeal.Facts) (hMlaRefIdeal : Cert.MlaRefIdeal.Facts) (hFinP : Cert.FinP.Facts) (hFinPIdeal : Cert.FinPIdeal.Facts) (hFinPRefIdeal : Cert.FinPRefIdeal.Facts) (hFinS : Cert.FinS.Facts) (hFinSIdeal : Cert.FinSIdeal.Facts) (hFinSRefIdeal : Cert.FinSRefIdeal.Facts) (hPre_finite : Cert.Pre_finite.Facts),
    quiescent_Mla (hMla := hMla)
    ∧ quiescent_MlaIdeal (hMlaIdeal := hMlaIdeal)
    ∧ quiescent_MlaIdeal_pre_finite (hMlaIdeal := hMlaIdeal) (hPre_finite := hPre_finite)
    ∧ quiescent_MlaRefIdeal (hMlaRefIdeal := hMlaRefIdeal)
    ∧ quiescent_MlaRefIdeal_pre_finite (hMlaRefIdeal := hMlaRefIdeal) (hPre_finite := hPre_finite)
    ∧ quiescent_FinP (hFinP := hFinP)
    ∧ quiescent_FinPIdeal (hFinPIdeal := hFinPIdeal)
    ∧ quiescent_FinPRefIdeal (hFinPRefIdeal := hFinPRefIdeal)
    ∧ quiescent_FinS (hFinS := hFinS)
    ∧ quiescent_FinSIdeal (hFinSIdeal := hFinSIdeal)
    ∧ quiescent_FinSRefIdeal (hFinSRefIdeal := hFinSRefIdeal)
    ∧ preserves_Mla_MlaIdeal
    ∧ algebraic_MlaIdeal_MlaRefIdeal_pre_finite (hMlaIdeal := hMlaIdeal) (hMlaRefIdeal := hMlaRefIdeal) (hPre_finite := hPre_finite)
    ∧ preserves_FinP_FinPIdeal
    ∧ algebraic_FinPIdeal_FinPRefIdeal (hFinPIdeal := hFinPIdeal) (hFinPRefIdeal := hFinPRefIdeal)
    ∧ preserves_FinS_FinSIdeal
    ∧ algebraic_FinSIdeal_FinSRefIdeal (hFinSIdeal := hFinSIdeal) (hFinSRefIdeal := hFinSRefIdeal)
-- ==== Pre_finite.lean ====
abbrev S2x8192x8x256 : Shape := ⟨4, ![2, 8192, 8, 256]⟩
abbrev S2x8192x8x32 : Shape := ⟨4, ![2, 8192, 8, 32]⟩
abbrev S2x8192x288 : Shape := ⟨3, ![2, 8192, 288]⟩
abbrev S256x8x64 : Shape := ⟨3, ![256, 8, 64]⟩
abbrev S_ : Shape := ⟨0, ![]⟩

class Facts : Prop where
  bcast_S_S2x8192x8x256 : S_.BroadcastsInDim S2x8192x8x256 (![] : Fin 0 → Fin S2x8192x8x256.rank)
  bcast_S_S2x8192x8x32 : S_.BroadcastsInDim S2x8192x8x32 (![] : Fin 0 → Fin S2x8192x8x32.rank)
  bcast_S_S2x8192x288 : S_.BroadcastsInDim S2x8192x288 (![] : Fin 0 → Fin S2x8192x288.rank)

variable [Facts]

def fn {F : FTy → Type} [FloatOps F] (main_arg0 : FVec F S2x8192x8x256 .f32) (main_arg1 : FVec F S2x8192x8x32 .f32) (main_arg2 : FVec F S2x8192x288 .f32) (main_arg3 : FVec F S256x8x64 .f32) : IVec S2x8192x8x256 1 × IVec S2x8192x8x32 1 × IVec S2x8192x288 1 :=
  let main_cst : FVec F S_ .f32 := constant S_ .f32 0x7F800000#32
  let main_v0 : FVec F S2x8192x8x256 .f32 := broadcastInDim S2x8192x8x256 ![] bcast_S_S2x8192x8x256 main_cst
  let main_v1 : IVec S2x8192x8x256 1 := cmpf .olt main_arg0 main_v0
  let main_cst_0 : FVec F S_ .f32 := constant S_ .f32 0xFF800000#32
  let main_v2 : FVec F S2x8192x8x256 .f32 := broadcastInDim S2x8192x8x256 ![] bcast_S_S2x8192x8x256 main_cst_0
  let main_v3 : IVec S2x8192x8x256 1 := cmpf .ogt main_arg0 main_v2
  let main_v4 : IVec S2x8192x8x256 1 := andi main_v1 main_v3
  let main_cst_1 : FVec F S_ .f32 := constant S_ .f32 0x7F800000#32
  let main_v5 : FVec F S2x8192x8x32 .f32 := broadcastInDim S2x8192x8x32 ![] bcast_S_S2x8192x8x32 main_cst_1
  let main_v6 : IVec S2x8192x8x32 1 := cmpf .olt main_arg1 main_v5
  let main_cst_2 : FVec F S_ .f32 := constant S_ .f32 0xFF800000#32
  let main_v7 : FVec F S2x8192x8x32 .f32 := broadcastInDim S2x8192x8x32 ![] bcast_S_S2x8192x8x32 main_cst_2
  let main_v8 : IVec S2x8192x8x32 1 := cmpf .ogt main_arg1 main_v7
  let main_v9 : IVec S2x8192x8x32 1 := andi main_v6 main_v8
  let main_cst_3 : FVec F S_ .f32 := constant S_ .f32 0x7F800000#32
  let main_v10 : FVec F S2x8192x288 .f32 := broadcastInDim S2x8192x288 ![] bcast_S_S2x8192x288 main_cst_3
  let main_v11 : IVec S2x8192x288 1 := cmpf .olt main_arg2 main_v10
  let main_cst_4 : FVec F S_ .f32 := constant S_ .f32 0xFF800000#32
  let main_v12 : FVec F S2x8192x288 .f32 := broadcastInDim S2x8192x288 ![] bcast_S_S2x8192x288 main_cst_4
  let main_v13 : IVec S2x8192x288 1 := cmpf .ogt main_arg2 main_v12
  let main_v14 : IVec S2x8192x288 1 := andi main_v11 main_v13
  (main_v4, main_v9, main_v14)
-- ==== Mla.lean ====
abbrev S2x8192x8x256 : Shape := ⟨4, ![2, 8192, 8, 256]⟩
abbrev S2x8192x8x32 : Shape := ⟨4, ![2, 8192, 8, 32]⟩
abbrev S2x8192x288 : Shape := ⟨3, ![2, 8192, 288]⟩
abbrev S256x8x64 : Shape := ⟨3, ![256, 8, 64]⟩
abbrev S_ : Shape := ⟨0, ![]⟩
abbrev S2x8192x8x96 : Shape := ⟨4, ![2, 8192, 8, 96]⟩
abbrev S2x8192x8x384 : Shape := ⟨4, ![2, 8192, 8, 384]⟩
abbrev S16384x3072 : Shape := ⟨2, ![16384, 3072]⟩
abbrev S16384x288 : Shape := ⟨2, ![16384, 288]⟩
abbrev S16384x384 : Shape := ⟨2, ![16384, 384]⟩
abbrev S8x256x64 : Shape := ⟨3, ![8, 256, 64]⟩
abbrev S1x8x1x256x1x64 : Shape := ⟨6, ![1, 8, 1, 256, 1, 64]⟩
abbrev S1x8x1x256x8x64 : Shape := ⟨6, ![1, 8, 1, 256, 8, 64]⟩
abbrev S8x256x512 : Shape := ⟨3, ![8, 256, 512]⟩
abbrev S512 : Shape := ⟨1, ![512]⟩
abbrev S1x1x512 : Shape := ⟨3, ![1, 1, 512]⟩
abbrev S8 : Shape := ⟨1, ![8]⟩
abbrev S8x1x1 : Shape := ⟨3, ![8, 1, 1]⟩
abbrev S8x1x512 : Shape := ⟨3, ![8, 1, 512]⟩
abbrev S16384x512 : Shape := ⟨2, ![16384, 512]⟩
abbrev S256x3072 : Shape := ⟨2, ![256, 3072]⟩
abbrev S8192x384 : Shape := ⟨2, ![8192, 384]⟩
abbrev S256x512 : Shape := ⟨2, ![256, 512]⟩
abbrev S2x2048x512 : Shape := ⟨3, ![2, 2048, 512]⟩
abbrev S2048x128 : Shape := ⟨2, ![2048, 128]⟩
abbrev S2048x256 : Shape := ⟨2, ![2048, 256]⟩
abbrev S256x384 : Shape := ⟨2, ![256, 384]⟩
abbrev S2048x384 : Shape := ⟨2, ![2048, 384]⟩
abbrev S512x384 : Shape := ⟨2, ![512, 384]⟩
abbrev S2048x512 : Shape := ⟨2, ![2048, 512]⟩
abbrev S1x2048x512 : Shape := ⟨3, ![1, 2048, 512]⟩
abbrev S2048 : Shape := ⟨1, ![2048]⟩
abbrev S2048x1 : Shape := ⟨2, ![2048, 1]⟩
abbrev S512x256 : Shape := ⟨2, ![512, 256]⟩
abbrev S256x256 : Shape := ⟨2, ![256, 256]⟩
abbrev S1x256x512 : Shape := ⟨3, ![1, 256, 512]⟩

abbrev nBuf : Space → Nat
  | .hbm => 68
  | .vmem => 11
  | .smem => 0
  | _ => 0

abbrev bufTy : (tb : Table) → Fin (tcTables nBuf tb) → BufTy
  | .hbm, ⟨0, _⟩ => ⟨S2x8192x8x256, .f32⟩
  | .hbm, ⟨1, _⟩ => ⟨S2x8192x8x32, .f32⟩
  | .hbm, ⟨2, _⟩ => ⟨S2x8192x288, .f32⟩
  | .hbm, ⟨3, _⟩ => ⟨S256x8x64, .f32⟩
  | .hbm, ⟨4, _⟩ => ⟨S_, .f32⟩
  | .hbm, ⟨5, _⟩ => ⟨S2x8192x8x96, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x8192x8x256, .f32⟩
  | .hbm, ⟨14, _⟩ => ⟨S2x8192x8x256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x8192x8x32, .f32⟩
  | .hbm, ⟨23, _⟩ => ⟨S2x8192x8x32, .f32⟩
  | .hbm, ⟨24, _⟩ => ⟨S2x8192x8x384, .f32⟩
  | .hbm, ⟨25, _⟩ => ⟨S16384x3072, .f32⟩
  | .hbm, ⟨26, _⟩ => ⟨S16384x3072, .bf16⟩
  | .hbm, ⟨27, _⟩ => ⟨S16384x288, .f32⟩
  | .hbm, ⟨28, _⟩ => ⟨S_, .i32⟩
  | .hbm, ⟨29, _⟩ => ⟨S_, .f32⟩
  | .hbm, ⟨30, _⟩ => ⟨S16384x384, .f32⟩
  | .hbm, ⟨31, _⟩ => ⟨S16384x384, .bf16⟩
  | .hbm, ⟨32, _⟩ => ⟨S8x256x64, .f32⟩
  | .hbm, ⟨33, _⟩ => ⟨S1x8x1x256x1x64, .f32⟩
  | .hbm, ⟨34, _⟩ => ⟨S1x8x1x256x8x64, .f32⟩
  | .hbm, ⟨35, _⟩ => ⟨S8x256x512, .f32⟩
  | .hbm, ⟨36, _⟩ => ⟨S512, .i32⟩
  | .hbm, ⟨37, _⟩ => ⟨S_, .i32⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S512, .i32⟩
  | .hbm, ⟨46, _⟩ => ⟨S512, .i32⟩
  | .hbm, ⟨47, _⟩ => ⟨S_, .i32⟩
  | .hbm, ⟨48, _⟩ => ⟨S512, .i32⟩
  | .hbm, ⟨49, _⟩ => ⟨S512, .i1⟩
  | .hbm, ⟨50, _⟩ => ⟨S512, .i1⟩
  | .hbm, ⟨51, _⟩ => ⟨S_, .i32⟩
  | .hbm, ⟨52, _⟩ => ⟨S512, .i32⟩
  | .hbm, ⟨53, _⟩ => ⟨S512, .i32⟩
  | .hbm, ⟨54, _⟩ => ⟨S512, .i32⟩
  | .hbm, ⟨55, _⟩ => ⟨S1x1x512, .i32⟩
  | .hbm, ⟨56, _⟩ => ⟨S8, .i32⟩
  | .hbm, ⟨57, _⟩ => ⟨S8x1x1, .i32⟩
  | .hbm, ⟨58, _⟩ => ⟨S8x1x512, .i32⟩
  | .hbm, ⟨59, _⟩ => ⟨S8x1x512, .i32⟩
  | .hbm, ⟨60, _⟩ => ⟨S8x1x512, .i1⟩
  | .hbm, ⟨61, _⟩ => ⟨S_, .f32⟩
  | .hbm, ⟨62, _⟩ => ⟨S_, .f32⟩
  | .hbm, ⟨63, _⟩ => ⟨S8x256x512, .i1⟩
  | .hbm, ⟨64, _⟩ => ⟨S8x256x512, .f32⟩
  | .hbm, ⟨65, _⟩ => ⟨S8x256x512, .f32⟩
  | .hbm, ⟨66, _⟩ => ⟨S8x256x512, .bf16⟩
  | .hbm, ⟨67, _⟩ => ⟨S16384x512, .f32⟩
  | .local _ .vmem, ⟨0, _⟩ => ⟨S256x3072, .bf16⟩
  | .local _ .vmem, ⟨1, _⟩ => ⟨S256x3072, .bf16⟩
  | .local _ .vmem, ⟨2, _⟩ => ⟨S8192x384, .bf16⟩
  | .local _ .vmem, ⟨3, _⟩ => ⟨S8192x384, .bf16⟩
  | .local _ .vmem, ⟨4, _⟩ => ⟨S8x256x512, .bf16⟩
  | .local _ .vmem, ⟨5, _⟩ => ⟨S256x512, .f32⟩
  | .local _ .vmem, ⟨6, _⟩ => ⟨S256x512, .f32⟩
  | .local _ .vmem, ⟨7, _⟩ => ⟨S2x2048x512, .f32⟩
  | .local _ .vmem, ⟨8, _⟩ => ⟨S2048x128, .f32⟩
  | .local _ .vmem, ⟨9, _⟩ => ⟨S2048x128, .f32⟩
  | .local _ .vmem, ⟨10, _⟩ => ⟨S2048x256, .f32⟩
  | _, _ => ⟨S2x8192x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_cst_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_mult1 : BitVec 32 :=
  let c0_i32 : BitVec 32 := 0#32
  c0_i32
@[reducible] def k0_t1_loop (i : grid0.Coords) : Scf.Loop 32 :=
  let c0_i32_16 : BitVec 32 := 0#32
  let arg1 : BitVec 32 := BitVec.ofNat 32 (i 1).val
  let c1_i32 : BitVec 32 := 1#32
  let v23 : BitVec 32 := Scalar.shrsi arg1 c1_i32
  let c1_i32_14 : BitVec 32 := 1#32
  let v32 : BitVec 32 := Scalar.shrsi v23 c1_i32_14
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_18 : BitVec 32 := 1#32
  ⟨c0_i32_16, v37, c1_i32_18⟩
def k0_mult2 (i : grid0.Coords) (k0_t1 : Fin (k0_t1_loop i).trips) : BitVec 32 :=
  let c2_i32 : BitVec 32 := 2#32
  let c0_i32_16 : BitVec 32 := 0#32
  let c1_i32_18 : BitVec 32 := 1#32
  let arg10 : BitVec 32 := Scf.iv c0_i32_16 c1_i32_18 k0_t1
  let v113 : BitVec 32 := Scalar.muli c2_i32 arg10
  let c1_i32_72 : BitVec 32 := 1#32
  let v114 : BitVec 32 := Scalar.addi v113 c1_i32_72
  let c512_i32 : BitVec 32 := 512#32
  let v115 : BitVec 32 := Scalar.muli v114 c512_i32
  v115
def k0_off1 (i : grid0.Coords) (k0_t1 : Fin (k0_t1_loop i).trips) (c1_i32_72 : BitVec 32) : Fin 2 → Nat :=
  let c2_i32 : BitVec 32 := 2#32
  let c0_i32_16 : BitVec 32 := 0#32
  let c1_i32_18 : BitVec 32 := 1#32
  let arg10 : BitVec 32 := Scf.iv c0_i32_16 c1_i32_18 k0_t1
  let v113 : BitVec 32 := Scalar.muli c2_i32 arg10
  let v114 : BitVec 32 := Scalar.addi v113 c1_i32_72
  let c512_i32 : BitVec 32 := 512#32
  let v115 : BitVec 32 := Scalar.muli v114 c512_i32
  let v116 : BitVec 32 := v115
  let v117 : Index := Scalar.indexCast v116
  let c0_73 : Index := 0#32
  ![v117.toNat, 0]
def k0_mult3 (i : grid0.Coords) (k0_t1 : Fin (k0_t1_loop i).trips) : BitVec 32 :=
  let c2_i32 : BitVec 32 := 2#32
  let c0_i32_16 : BitVec 32 := 0#32
  let c1_i32_18 : BitVec 32 := 1#32
  let arg10 : BitVec 32 := Scf.iv c0_i32_16 c1_i32_18 k0_t1
  let v113 : BitVec 32 := Scalar.muli c2_i32 arg10
  let c512_i32_91 : BitVec 32 := 512#32
  let v149 : BitVec 32 := Scalar.muli v113 c512_i32_91
  v149
def k0_off2 (i : grid0.Coords) (k0_t1 : Fin (k0_t1_loop i).trips) : Fin 2 → Nat :=
  let c2_i32 : BitVec 32 := 2#32
  let c0_i32_16 : BitVec 32 := 0#32
  let c1_i32_18 : BitVec 32 := 1#32
  let arg10 : BitVec 32 := Scf.iv c0_i32_16 c1_i32_18 k0_t1
  let v113 : BitVec 32 := Scalar.muli c2_i32 arg10
  let c512_i32_91 : BitVec 32 := 512#32
  let v149 : BitVec 32 := Scalar.muli v113 c512_i32_91
  let v150 : BitVec 32 := v149
  let v151 : Index := Scalar.indexCast v150
  let c0_92 : Index := 0#32
  ![v151.toNat, 0]
def k0_mult4 (i : grid0.Coords) (k0_t1 : Fin (k0_t1_loop i).trips) : BitVec 32 :=
  let c2_i32 : BitVec 32 := 2#32
  let c0_i32_16 : BitVec 32 := 0#32
  let c1_i32_18 : BitVec 32 := 1#32
  let arg10 : BitVec 32 := Scf.iv c0_i32_16 c1_i32_18 k0_t1
  let v113 : BitVec 32 := Scalar.muli c2_i32 arg10
  let c2_i32_98 : BitVec 32 := 2#32
  let v163 : BitVec 32 := Scalar.addi v113 c2_i32_98
  let c512_i32_99 : BitVec 32 := 512#32
  let v164 : BitVec 32 := Scalar.muli v163 c512_i32_99
  v164
def k0_mult5 (i : grid0.Coords) (k0_t1 : Fin (k0_t1_loop i).trips) : BitVec 32 :=
  let c2_i32 : BitVec 32 := 2#32
  let c0_i32_16 : BitVec 32 := 0#32
  let c1_i32_18 : BitVec 32 := 1#32
  let arg10 : BitVec 32 := Scf.iv c0_i32_16 c1_i32_18 k0_t1
  let v113 : BitVec 32 := Scalar.muli c2_i32 arg10
  let c1_i32_105 : BitVec 32 := 1#32
  let v173 : BitVec 32 := Scalar.addi v113 c1_i32_105
  let c512_i32_119 : BitVec 32 := 512#32
  let v199 : BitVec 32 := Scalar.muli v173 c512_i32_119
  v199
@[reducible] def k0_t2_loop (i : grid0.Coords) : Scf.Loop 32 :=
  let c0_i32_16 : BitVec 32 := 0#32
  let arg1 : BitVec 32 := BitVec.ofNat 32 (i 1).val
  let c1_i32 : BitVec 32 := 1#32
  let v23 : BitVec 32 := Scalar.shrsi arg1 c1_i32
  let c1_i32_14 : BitVec 32 := 1#32
  let v32 : BitVec 32 := Scalar.shrsi v23 c1_i32_14
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let v34 : BitVec 32 := Scalar.addi c0_i32_16 v33
  let c1_i32_19 : BitVec 32 := 1#32
  ⟨v37, v34, c1_i32_19⟩
def k0_mult6 (i : grid0.Coords) (k0_t2 : Fin (k0_t2_loop i).trips) : BitVec 32 :=
  let c2_i32 : BitVec 32 := 2#32
  let c0_i32_16 : BitVec 32 := 0#32
  let arg1 : BitVec 32 := BitVec.ofNat 32 (i 1).val
  let c1_i32 : BitVec 32 := 1#32
  let v23 : BitVec 32 := Scalar.shrsi arg1 c1_i32
  let c1_i32_14 : BitVec 32 := 1#32
  let v32 : BitVec 32 := Scalar.shrsi v23 c1_i32_14
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg10 : BitVec 32 := Scf.iv v37 c1_i32_19 k0_t2
  let v113 : BitVec 32 := Scalar.muli c2_i32 arg10
  let c1_i32_72 : BitVec 32 := 1#32
  let v114 : BitVec 32 := Scalar.addi v113 c1_i32_72
  let c512_i32 : BitVec 32 := 512#32
  let v115 : BitVec 32 := Scalar.muli v114 c512_i32
  v115
def k0_off3 (i : grid0.Coords) (k0_t2 : Fin (k0_t2_loop i).trips) (c1_i32_72 : BitVec 32) : Fin 2 → Nat :=
  let c2_i32 : BitVec 32 := 2#32
  let c0_i32_16 : BitVec 32 := 0#32
  let arg1 : BitVec 32 := BitVec.ofNat 32 (i 1).val
  let c1_i32 : BitVec 32 := 1#32
  let v23 : BitVec 32 := Scalar.shrsi arg1 c1_i32
  let c1_i32_14 : BitVec 32 := 1#32
  let v32 : BitVec 32 := Scalar.shrsi v23 c1_i32_14
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg10 : BitVec 32 := Scf.iv v37 c1_i32_19 k0_t2
  let v113 : BitVec 32 := Scalar.muli c2_i32 arg10
  let v114 : BitVec 32 := Scalar.addi v113 c1_i32_72
  let c512_i32 : BitVec 32 := 512#32
  let v115 : BitVec 32 := Scalar.muli v114 c512_i32
  let v116 : BitVec 32 := v115
  let v117 : Index := Scalar.indexCast v116
  let c0_73 : Index := 0#32
  ![v117.toNat, 0]
def k0_mult7 (i : grid0.Coords) (k0_t2 : Fin (k0_t2_loop i).trips) : BitVec 32 :=
  let c2_i32 : BitVec 32 := 2#32
  let c0_i32_16 : BitVec 32 := 0#32
  let arg1 : BitVec 32 := BitVec.ofNat 32 (i 1).val
  let c1_i32 : BitVec 32 := 1#32
  let v23 : BitVec 32 := Scalar.shrsi arg1 c1_i32
  let c1_i32_14 : BitVec 32 := 1#32
  let v32 : BitVec 32 := Scalar.shrsi v23 c1_i32_14
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg10 : BitVec 32 := Scf.iv v37 c1_i32_19 k0_t2
  let v113 : BitVec 32 := Scalar.muli c2_i32 arg10
  let c512_i32_91 : BitVec 32 := 512#32
  let v149 : BitVec 32 := Scalar.muli v113 c512_i32_91
  v149
def k0_off4 (i : grid0.Coords) (k0_t2 : Fin (k0_t2_loop i).trips) : Fin 2 → Nat :=
  let c2_i32 : BitVec 32 := 2#32
  let c0_i32_16 : BitVec 32 := 0#32
  let arg1 : BitVec 32 := BitVec.ofNat 32 (i 1).val
  let c1_i32 : BitVec 32 := 1#32
  let v23 : BitVec 32 := Scalar.shrsi arg1 c1_i32
  let c1_i32_14 : BitVec 32 := 1#32
  let v32 : BitVec 32 := Scalar.shrsi v23 c1_i32_14
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg10 : BitVec 32 := Scf.iv v37 c1_i32_19 k0_t2
  let v113 : BitVec 32 := Scalar.muli c2_i32 arg10
  let c512_i32_91 : BitVec 32 := 512#32
  let v149 : BitVec 32 := Scalar.muli v113 c512_i32_91
  let v150 : BitVec 32 := v149
  let v151 : Index := Scalar.indexCast v150
  let c0_92 : Index := 0#32
  ![v151.toNat, 0]
def k0_mult8 (i : grid0.Coords) (k0_t2 : Fin (k0_t2_loop i).trips) : BitVec 32 :=
  let c2_i32 : BitVec 32 := 2#32
  let c0_i32_16 : BitVec 32 := 0#32
  let arg1 : BitVec 32 := BitVec.ofNat 32 (i 1).val
  let c1_i32 : BitVec 32 := 1#32
  let v23 : BitVec 32 := Scalar.shrsi arg1 c1_i32
  let c1_i32_14 : BitVec 32 := 1#32
  let v32 : BitVec 32 := Scalar.shrsi v23 c1_i32_14
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg10 : BitVec 32 := Scf.iv v37 c1_i32_19 k0_t2
  let v113 : BitVec 32 := Scalar.muli c2_i32 arg10
  let c2_i32_98 : BitVec 32 := 2#32
  let v163 : BitVec 32 := Scalar.addi v113 c2_i32_98
  let c512_i32_99 : BitVec 32 := 512#32
  let v164 : BitVec 32 := Scalar.muli v163 c512_i32_99
  v164
def k0_mult9 (i : grid0.Coords) (k0_t2 : Fin (k0_t2_loop i).trips) : BitVec 32 :=
  let c2_i32 : BitVec 32 := 2#32
  let c0_i32_16 : BitVec 32 := 0#32
  let arg1 : BitVec 32 := BitVec.ofNat 32 (i 1).val
  let c1_i32 : BitVec 32 := 1#32
  let v23 : BitVec 32 := Scalar.shrsi arg1 c1_i32
  let c1_i32_14 : BitVec 32 := 1#32
  let v32 : BitVec 32 := Scalar.shrsi v23 c1_i32_14
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg10 : BitVec 32 := Scf.iv v37 c1_i32_19 k0_t2
  let v113 : BitVec 32 := Scalar.muli c2_i32 arg10
  let c1_i32_105 : BitVec 32 := 1#32
  let v173 : BitVec 32 := Scalar.addi v113 c1_i32_105
  let c512_i32_119 : BitVec 32 := 512#32
  let v199 : BitVec 32 := Scalar.muli v173 c512_i32_119
  v199
def k0_cond1 (i : grid0.Coords) : BitVec 1 :=
  let arg1 : BitVec 32 := BitVec.ofNat 32 (i 1).val
  let c1_i32 : BitVec 32 := 1#32
  let v23 : BitVec 32 := Scalar.shrsi arg1 c1_i32
  let c1_i32_20 : BitVec 32 := 1#32
  let v38 : BitVec 32 := Scalar.andi v23 c1_i32_20
  let c0_i32_21 : BitVec 32 := 0#32
  let v39 : BitVec 1 := Scalar.cmpi .eq v38 c0_i32_21
  let c1_i32_22 : BitVec 32 := 1#32
  let v40 : BitVec 32 := Scalar.andi arg1 c1_i32_22
  let c0_i32_23 : BitVec 32 := 0#32
  let v41 : BitVec 1 := Scalar.cmpi .eq v40 c0_i32_23
  let v42 : BitVec 1 := Scalar.andi v39 v41
  let v43 : BitVec 32 := Scalar.extui v42
  let c0_i32_24 : BitVec 32 := 0#32
  let v44 : BitVec 1 := Scalar.cmpi .ne v43 c0_i32_24
  v44

def k0_mult10 (i : grid0.Coords) : BitVec 32 :=
  let arg1 : BitVec 32 := BitVec.ofNat 32 (i 1).val
  let c1_i32 : BitVec 32 := 1#32
  let v23 : BitVec 32 := Scalar.shrsi arg1 c1_i32
  let c512_i32 : BitVec 32 := 512#32
  let v148 : BitVec 32 := Scalar.muli v23 c512_i32
  v148
def k0_off5 (i : grid0.Coords) : Fin 2 → Nat :=
  let arg1 : BitVec 32 := BitVec.ofNat 32 (i 1).val
  let c1_i32 : BitVec 32 := 1#32
  let v23 : BitVec 32 := Scalar.shrsi arg1 c1_i32
  let c512_i32 : BitVec 32 := 512#32
  let v148 : BitVec 32 := Scalar.muli v23 c512_i32
  let v149 : BitVec 32 := v148
  let v150 : Index := Scalar.indexCast v149
  let c0_87 : Index := 0#32
  ![v150.toNat, 0]
def k0_cond2 (i : grid0.Coords) : BitVec 1 :=
  let arg1 : BitVec 32 := BitVec.ofNat 32 (i 1).val
  let c1_i32 : BitVec 32 := 1#32
  let v23 : BitVec 32 := Scalar.shrsi arg1 c1_i32
  let c1_i32_25 : BitVec 32 := 1#32
  let v45 : BitVec 32 := Scalar.andi v23 c1_i32_25
  let c1_i32_26 : BitVec 32 := 1#32
  let v46 : BitVec 1 := Scalar.cmpi .eq v45 c1_i32_26
  let c1_i32_27 : BitVec 32 := 1#32
  let v47 : BitVec 32 := Scalar.andi arg1 c1_i32_27
  let c0_i32_28 : BitVec 32 := 0#32
  let v48 : BitVec 1 := Scalar.cmpi .eq v47 c0_i32_28
  let v49 : BitVec 1 := Scalar.andi v46 v48
  let v50 : BitVec 32 := Scalar.extui v49
  let c0_i32_29 : BitVec 32 := 0#32
  let v51 : BitVec 1 := Scalar.cmpi .ne v50 c0_i32_29
  v51

def k0_mult11 (i : grid0.Coords) : BitVec 32 :=
  let arg1 : BitVec 32 := BitVec.ofNat 32 (i 1).val
  let c1_i32 : BitVec 32 := 1#32
  let v23 : BitVec 32 := Scalar.shrsi arg1 c1_i32
  let c512_i32 : BitVec 32 := 512#32
  let v113 : BitVec 32 := Scalar.muli v23 c512_i32
  v113
def k0_off6 (i : grid0.Coords) : Fin 2 → Nat :=
  let arg1 : BitVec 32 := BitVec.ofNat 32 (i 1).val
  let c1_i32 : BitVec 32 := 1#32
  let v23 : BitVec 32 := Scalar.shrsi arg1 c1_i32
  let c512_i32 : BitVec 32 := 512#32
  let v113 : BitVec 32 := Scalar.muli v23 c512_i32
  let v114 : BitVec 32 := v113
  let v115 : Index := Scalar.indexCast v114
  let c0_72 : Index := 0#32
  ![v115.toNat, 0]
def k0_mult12 (i : grid0.Coords) : BitVec 32 :=
  let arg1 : BitVec 32 := BitVec.ofNat 32 (i 1).val
  let c1_i32 : BitVec 32 := 1#32
  let v23 : BitVec 32 := Scalar.shrsi arg1 c1_i32
  let c1_i32_77 : BitVec 32 := 1#32
  let v122 : BitVec 32 := Scalar.subi v23 c1_i32_77
  let c512_i32_91 : BitVec 32 := 512#32
  let v148 : BitVec 32 := Scalar.muli v122 c512_i32_91
  v148
def k0_off7 (i : grid0.Coords) : Fin 2 → Nat :=
  let arg1 : BitVec 32 := BitVec.ofNat 32 (i 1).val
  let c1_i32 : BitVec 32 := 1#32
  let v23 : BitVec 32 := Scalar.shrsi arg1 c1_i32
  let c1_i32_77 : BitVec 32 := 1#32
  let v122 : BitVec 32 := Scalar.subi v23 c1_i32_77
  let c512_i32_91 : BitVec 32 := 512#32
  let v148 : BitVec 32 := Scalar.muli v122 c512_i32_91
  let v149 : BitVec 32 := v148
  let v150 : Index := Scalar.indexCast v149
  let c0_92 : Index := 0#32
  ![v150.toNat, 0]
def k0_mult13 (i : grid0.Coords) : BitVec 32 :=
  let arg1 : BitVec 32 := BitVec.ofNat 32 (i 1).val
  let c1_i32 : BitVec 32 := 1#32
  let v23 : BitVec 32 := Scalar.shrsi arg1 c1_i32
  let c512_i32_113 : BitVec 32 := 512#32
  let v197 : BitVec 32 := Scalar.muli v23 c512_i32_113
  v197
def k0_cond3 (i : grid0.Coords) : BitVec 1 :=
  let arg1 : BitVec 32 := BitVec.ofNat 32 (i 1).val
  let c1_i32 : BitVec 32 := 1#32
  let v23 : BitVec 32 := Scalar.shrsi arg1 c1_i32
  let c1_i32_30 : BitVec 32 := 1#32
  let v52 : BitVec 32 := Scalar.andi v23 c1_i32_30
  let c0_i32_31 : BitVec 32 := 0#32
  let v53 : BitVec 1 := Scalar.cmpi .eq v52 c0_i32_31
  let c1_i32_32 : BitVec 32 := 1#32
  let v54 : BitVec 32 := Scalar.andi arg1 c1_i32_32
  let c1_i32_33 : BitVec 32 := 1#32
  let v55 : BitVec 1 := Scalar.cmpi .eq v54 c1_i32_33
  let v56 : BitVec 1 := Scalar.andi v53 v55
  let v57 : BitVec 32 := Scalar.extui v56
  let c0_i32_34 : BitVec 32 := 0#32
  let v58 : BitVec 1 := Scalar.cmpi .ne v57 c0_i32_34
  v58

def k0_mult14 (i : grid0.Coords) : BitVec 32 :=
  let arg1 : BitVec 32 := BitVec.ofNat 32 (i 1).val
  let c1_i32 : BitVec 32 := 1#32
  let v23 : BitVec 32 := Scalar.shrsi arg1 c1_i32
  let c512_i32 : BitVec 32 := 512#32
  let v147 : BitVec 32 := Scalar.muli v23 c512_i32
  v147
def k0_off8 (i : grid0.Coords) : Fin 2 → Nat :=
  let arg1 : BitVec 32 := BitVec.ofNat 32 (i 1).val
  let c1_i32 : BitVec 32 := 1#32
  let v23 : BitVec 32 := Scalar.shrsi arg1 c1_i32
  let c512_i32 : BitVec 32 := 512#32
  let v147 : BitVec 32 := Scalar.muli v23 c512_i32
  let v148 : BitVec 32 := v147
  let v149 : Index := Scalar.indexCast v148
  let c0_86 : Index := 0#32
  ![v149.toNat, 0]
def k0_cond4 (i : grid0.Coords) : BitVec 1 :=
  let arg1 : BitVec 32 := BitVec.ofNat 32 (i 1).val
  let c1_i32 : BitVec 32 := 1#32
  let v23 : BitVec 32 := Scalar.shrsi arg1 c1_i32
  let c1_i32_35 : BitVec 32 := 1#32
  let v59 : BitVec 32 := Scalar.andi v23 c1_i32_35
  let c1_i32_36 : BitVec 32 := 1#32
  let v60 : BitVec 1 := Scalar.cmpi .eq v59 c1_i32_36
  let c1_i32_37 : BitVec 32 := 1#32
  let v61 : BitVec 32 := Scalar.andi arg1 c1_i32_37
  let c1_i32_38 : BitVec 32 := 1#32
  let v62 : BitVec 1 := Scalar.cmpi .eq v61 c1_i32_38
  let v63 : BitVec 1 := Scalar.andi v60 v62
  let v64 : BitVec 32 := Scalar.extui v63
  let c0_i32_39 : BitVec 32 := 0#32
  let v65 : BitVec 1 := Scalar.cmpi .ne v64 c0_i32_39
  v65

def k0_mult15 (i : grid0.Coords) : BitVec 32 :=
  let arg1 : BitVec 32 := BitVec.ofNat 32 (i 1).val
  let c1_i32 : BitVec 32 := 1#32
  let v23 : BitVec 32 := Scalar.shrsi arg1 c1_i32
  let c512_i32 : BitVec 32 := 512#32
  let v113 : BitVec 32 := Scalar.muli v23 c512_i32
  v113
def k0_off9 (i : grid0.Coords) : Fin 2 → Nat :=
  let arg1 : BitVec 32 := BitVec.ofNat 32 (i 1).val
  let c1_i32 : BitVec 32 := 1#32
  let v23 : BitVec 32 := Scalar.shrsi arg1 c1_i32
  let c512_i32 : BitVec 32 := 512#32
  let v113 : BitVec 32 := Scalar.muli v23 c512_i32
  let v114 : BitVec 32 := v113
  let v115 : Index := Scalar.indexCast v114
  let c0_72 : Index := 0#32
  ![v115.toNat, 0]
def k0_mult16 (i : grid0.Coords) : BitVec 32 :=
  let arg1 : BitVec 32 := BitVec.ofNat 32 (i 1).val
  let c1_i32 : BitVec 32 := 1#32
  let v23 : BitVec 32 := Scalar.shrsi arg1 c1_i32
  let c1_i32_77 : BitVec 32 := 1#32
  let v122 : BitVec 32 := Scalar.subi v23 c1_i32_77
  let c512_i32_91 : BitVec 32 := 512#32
  let v148 : BitVec 32 := Scalar.muli v122 c512_i32_91
  v148
def k0_off10 (i : grid0.Coords) : Fin 2 → Nat :=
  let arg1 : BitVec 32 := BitVec.ofNat 32 (i 1).val
  let c1_i32 : BitVec 32 := 1#32
  let v23 : BitVec 32 := Scalar.shrsi arg1 c1_i32
  let c1_i32_77 : BitVec 32 := 1#32
  let v122 : BitVec 32 := Scalar.subi v23 c1_i32_77
  let c512_i32_91 : BitVec 32 := 512#32
  let v148 : BitVec 32 := Scalar.muli v122 c512_i32_91
  let v149 : BitVec 32 := v148
  let v150 : Index := Scalar.indexCast v149
  let c0_92 : Index := 0#32
  ![v150.toNat, 0]
def k0_mult17 (i : grid0.Coords) : BitVec 32 :=
  let arg1 : BitVec 32 := BitVec.ofNat 32 (i 1).val
  let c1_i32 : BitVec 32 := 1#32
  let v23 : BitVec 32 := Scalar.shrsi arg1 c1_i32
  let c512_i32_112 : BitVec 32 := 512#32
  let v196 : BitVec 32 := Scalar.muli v23 c512_i32_112
  v196
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaRefIdeal.lean ====
abbrev S2x8192x8x256 : Shape := ⟨4, ![2, 8192, 8, 256]⟩
abbrev S2x8192x8x32 : Shape := ⟨4, ![2, 8192, 8, 32]⟩
abbrev S2x8192x288 : Shape := ⟨3, ![2, 8192, 288]⟩
abbrev S256x8x64 : Shape := ⟨3, ![256, 8, 64]⟩
abbrev S8192 : Shape := ⟨1, ![8192]⟩
abbrev S2x8192x256 : Shape := ⟨3, ![2, 8192, 256]⟩
abbrev S2x8192x32 : Shape := ⟨3, ![2, 8192, 32]⟩
abbrev S2x8192x8192x8 : Shape := ⟨4, ![2, 8192, 8192, 8]⟩
abbrev S2x8x8192x8192 : Shape := ⟨4, ![2, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x8x8192 : Shape := ⟨3, ![2, 8, 8192]⟩
abbrev S2x8x8192x1 : Shape := ⟨4, ![2, 8, 8192, 1]⟩
abbrev S2x256x8x8192 : Shape := ⟨4, ![2, 256, 8, 8192]⟩
abbrev S8x64x2x8192 : Shape := ⟨4, ![8, 64, 2, 8192]⟩
abbrev S2x8192x8x64 : Shape := ⟨4, ![2, 8192, 8, 64]⟩
abbrev S16384x512 : Shape := ⟨2, ![16384, 512]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x8x256, .f32⟩
  | .hbm, ⟨1, _⟩ => ⟨S2x8192x8x32, .f32⟩
  | .hbm, ⟨2, _⟩ => ⟨S2x8192x288, .f32⟩
  | .hbm, ⟨3, _⟩ => ⟨S256x8x64, .f32⟩
  | .hbm, ⟨4, _⟩ => ⟨S8192, .i32⟩
  | .hbm, ⟨5, _⟩ => ⟨S2x8192x256, .f32⟩
  | .hbm, ⟨6, _⟩ => ⟨S2x8192x32, .f32⟩
  | .hbm, ⟨7, _⟩ => ⟨S2x8192x8192x8, .f32⟩
  | .hbm, ⟨8, _⟩ => ⟨S2x8x8192x8192, .f32⟩
  | .hbm, ⟨9, _⟩ => ⟨S2x8192x8192x8, .f32⟩
  | .hbm, ⟨10, _⟩ => ⟨S2x8x8192x8192, .f32⟩
  | .hbm, ⟨11, _⟩ => ⟨S2x8x8192x8192, .f32⟩
  | .hbm, ⟨12, _⟩ => ⟨S_, .f32⟩
  | .hbm, ⟨13, _⟩ => ⟨S_, .f32⟩
  | .hbm, ⟨14, _⟩ => ⟨S2x8x8192x8192, .f32⟩
  | .hbm, ⟨15, _⟩ => ⟨S2x8x8192x8192, .f32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S2x8x8192x8192, .i1⟩
  | .hbm, ⟨24, _⟩ => ⟨S2x8x8192x8192, .f32⟩
  | .hbm, ⟨25, _⟩ => ⟨S2x8x8192x8192, .f32⟩
  | .hbm, ⟨26, _⟩ => ⟨S_, .f32⟩
  | .hbm, ⟨27, _⟩ => ⟨S2x8x8192, .f32⟩
  | .hbm, ⟨28, _⟩ => ⟨S_, .f32⟩
  | .hbm, ⟨29, _⟩ => ⟨S2x8x8192, .f32⟩
  | .hbm, ⟨30, _⟩ => ⟨S2x8x8192, .f32⟩
  | .hbm, ⟨31, _⟩ => ⟨S2x8x8192x1, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S_, .f32⟩
  | .hbm, ⟨36, _⟩ => ⟨S2x8x8192, .f32⟩
  | .hbm, ⟨37, _⟩ => ⟨S2x8x8192x1, .f32⟩
  | .hbm, ⟨38, _⟩ => ⟨S2x8x8192x8192, .f32⟩
  | .hbm, ⟨39, _⟩ => ⟨S2x8x8192x8192, .f32⟩
  | .hbm, ⟨40, _⟩ => ⟨S2x256x8x8192, .f32⟩
  | .hbm, ⟨41, _⟩ => ⟨S2x8192x8x256, .f32⟩
  | .hbm, ⟨42, _⟩ => ⟨S8x64x2x8192, .f32⟩
  | .hbm, ⟨43, _⟩ => ⟨S2x8192x8x64, .f32⟩
  | .hbm, ⟨44, _⟩ => ⟨S16384x512, .f32⟩
  | _, _ => ⟨S2x8192x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== FinP.lean ====
abbrev S2x8192x1024 : Shape := ⟨3, ![2, 8192, 1024]⟩
abbrev S2x8192x8x64 : Shape := ⟨4, ![2, 8192, 8, 64]⟩
abbrev S2x8192x512 : Shape := ⟨3, ![2, 8192, 512]⟩
abbrev S512x1024 : Shape := ⟨2, ![512, 1024]⟩
abbrev S1024x1024 : Shape := ⟨2, ![1024, 1024]⟩
abbrev S16384x512 : Shape := ⟨2, ![16384, 512]⟩
abbrev S16384x1024 : Shape := ⟨2, ![16384, 1024]⟩
abbrev S_ : Shape := ⟨0, ![]⟩
abbrev S512x512 : Shape := ⟨2, ![512, 512]⟩

abbrev nBuf : Space → Nat
  | .hbm => 59
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x8192x8x64, .f32⟩
  | .hbm, ⟨2, _⟩ => ⟨S2x8192x8x64, .f32⟩
  | .hbm, ⟨3, _⟩ => ⟨S2x8192x512, .f32⟩
  | .hbm, ⟨4, _⟩ => ⟨S2x8192x512, .f32⟩
  | .hbm, ⟨5, _⟩ => ⟨S2x8192x1024, .f32⟩
  | .hbm, ⟨6, _⟩ => ⟨S2x8192x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S16384x512, .f32⟩
  | .hbm, ⟨11, _⟩ => ⟨S16384x512, .f32⟩
  | .hbm, ⟨12, _⟩ => ⟨S16384x1024, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .bf16⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .bf16⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .bf16⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .bf16⟩
  | .hbm, ⟨55, _⟩ => ⟨S512x1024, .bf16⟩
  | .hbm, ⟨56, _⟩ => ⟨S512x1024, .bf16⟩
  | .hbm, ⟨57, _⟩ => ⟨S1024x1024, .bf16⟩
  | .hbm, ⟨58, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FinPRefIdeal.lean ====
abbrev S2x8192x1024 : Shape := ⟨3, ![2, 8192, 1024]⟩
abbrev S2x8192x8x64 : Shape := ⟨4, ![2, 8192, 8, 64]⟩
abbrev S2x8192x512 : Shape := ⟨3, ![2, 8192, 512]⟩
abbrev S512x1024 : Shape := ⟨2, ![512, 1024]⟩
abbrev S1024x1024 : Shape := ⟨2, ![1024, 1024]⟩
abbrev S_ : Shape := ⟨0, ![]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x8x64, .f32⟩
  | .hbm, ⟨2, _⟩ => ⟨S2x8192x8x64, .f32⟩
  | .hbm, ⟨3, _⟩ => ⟨S2x8192x512, .f32⟩
  | .hbm, ⟨4, _⟩ => ⟨S2x8192x512, .f32⟩
  | .hbm, ⟨5, _⟩ => ⟨S2x8192x1024, .f32⟩
  | .hbm, ⟨6, _⟩ => ⟨S2x8192x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S2x8192x512, .f32⟩
  | .hbm, ⟨11, _⟩ => ⟨S2x8192x512, .f32⟩
  | .hbm, ⟨12, _⟩ => ⟨S2x8192x512, .f32⟩
  | .hbm, ⟨13, _⟩ => ⟨S_, .f32⟩
  | .hbm, ⟨14, _⟩ => ⟨S2x8192x512, .f32⟩
  | .hbm, ⟨15, _⟩ => ⟨S2x8192x512, .f32⟩
  | .hbm, ⟨16, _⟩ => ⟨S_, .f32⟩
  | .hbm, ⟨17, _⟩ => ⟨S2x8192x512, .f32⟩
  | .hbm, ⟨18, _⟩ => ⟨S2x8192x512, .f32⟩
  | .hbm, ⟨19, _⟩ => ⟨S2x8192x512, .f32⟩
  | .hbm, ⟨20, _⟩ => ⟨S2x8192x512, .f32⟩
  | .hbm, ⟨21, _⟩ => ⟨S2x8192x512, .f32⟩
  | .hbm, ⟨22, _⟩ => ⟨S2x8192x512, .f32⟩
  | .hbm, ⟨23, _⟩ => ⟨S2x8192x512, .f32⟩
  | .hbm, ⟨24, _⟩ => ⟨S_, .f32⟩
  | .hbm, ⟨25, _⟩ => ⟨S2x8192x512, .f32⟩
  | .hbm, ⟨26, _⟩ => ⟨S2x8192x512, .f32⟩
  | .hbm, ⟨27, _⟩ => ⟨S_, .f32⟩
  | .hbm, ⟨28, _⟩ => ⟨S2x8192x512, .f32⟩
  | .hbm, ⟨29, _⟩ => ⟨S2x8192x512, .f32⟩
  | .hbm, ⟨30, _⟩ => ⟨S2x8192x512, .f32⟩
  | .hbm, ⟨31, _⟩ => ⟨S2x8192x512, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S_, .f32⟩
  | .hbm, ⟨45, _⟩ => ⟨S2x8192x1024, .f32⟩
  | .hbm, ⟨46, _⟩ => ⟨S2x8192x1024, .f32⟩
  | .hbm, ⟨47, _⟩ => ⟨S_, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_cst_0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩

abbrev nD : Nat := 1
abbrev τ : Topo := Topo.v7x

variable {F : FTy → Type} [FloatOps F]
-- ==== FinS.lean ====
abbrev S128x8x1024 : Shape := ⟨3, ![128, 8, 1024]⟩
abbrev S128x8x8x64 : Shape := ⟨4, ![128, 8, 8, 64]⟩
abbrev S128x8x512 : Shape := ⟨3, ![128, 8, 512]⟩
abbrev S512x1024 : Shape := ⟨2, ![512, 1024]⟩
abbrev S1024x1024 : Shape := ⟨2, ![1024, 1024]⟩
abbrev S1024x512 : Shape := ⟨2, ![1024, 512]⟩
abbrev S_ : Shape := ⟨0, ![]⟩
abbrev S256x1024 : Shape := ⟨2, ![256, 1024]⟩
abbrev S256x512 : Shape := ⟨2, ![256, 512]⟩

abbrev nBuf : Space → Nat
  | .hbm => 59
  | .vmem => 19
  | .smem => 0
  | _ => 0

abbrev bufTy : (tb : Table) → Fin (tcTables nBuf tb) → BufTy
  | .hbm, ⟨0, _⟩ => ⟨S128x8x1024, .f32⟩
  | .hbm, ⟨1, _⟩ => ⟨S128x8x8x64, .f32⟩
  | .hbm, ⟨2, _⟩ => ⟨S128x8x8x64, .f32⟩
  | .hbm, ⟨3, _⟩ => ⟨S128x8x512, .f32⟩
  | .hbm, ⟨4, _⟩ => ⟨S128x8x512, .f32⟩
  | .hbm, ⟨5, _⟩ => ⟨S128x8x1024, .f32⟩
  | .hbm, ⟨6, _⟩ => ⟨S128x8x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024x512, .f32⟩
  | .hbm, ⟨11, _⟩ => ⟨S1024x512, .f32⟩
  | .hbm, ⟨12, _⟩ => ⟨S1024x1024, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1024x512, .bf16⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S1024x512, .bf16⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S1024x1024, .bf16⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S_, .f32⟩
  | .hbm, ⟨49, _⟩ => ⟨S1024x1024, .f32⟩
  | .hbm, ⟨50, _⟩ => ⟨S1024x1024, .f32⟩
  | .hbm, ⟨51, _⟩ => ⟨S_, .f32⟩
  | .hbm, ⟨52, _⟩ => ⟨S1024x1024, .f32⟩
  | .hbm, ⟨53, _⟩ => ⟨S1024x1024, .f32⟩
  | .hbm, ⟨54, _⟩ => ⟨S1024x1024, .bf16⟩
  | .hbm, ⟨55, _⟩ => ⟨S512x1024, .bf16⟩
  | .hbm, ⟨56, _⟩ => ⟨S512x1024, .bf16⟩
  | .hbm, ⟨57, _⟩ => ⟨S1024x1024, .bf16⟩
  | .hbm, ⟨58, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FinSRefIdeal.lean ====
abbrev S128x8x1024 : Shape := ⟨3, ![128, 8, 1024]⟩
abbrev S128x8x8x64 : Shape := ⟨4, ![128, 8, 8, 64]⟩
abbrev S128x8x512 : Shape := ⟨3, ![128, 8, 512]⟩
abbrev S512x1024 : Shape := ⟨2, ![512, 1024]⟩
abbrev S1024x1024 : Shape := ⟨2, ![1024, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x8x8x64, .f32⟩
  | .hbm, ⟨2, _⟩ => ⟨S128x8x8x64, .f32⟩
  | .hbm, ⟨3, _⟩ => ⟨S128x8x512, .f32⟩
  | .hbm, ⟨4, _⟩ => ⟨S128x8x512, .f32⟩
  | .hbm, ⟨5, _⟩ => ⟨S128x8x1024, .f32⟩
  | .hbm, ⟨6, _⟩ => ⟨S128x8x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S128x8x512, .f32⟩
  | .hbm, ⟨11, _⟩ => ⟨S128x8x512, .f32⟩
  | .hbm, ⟨12, _⟩ => ⟨S128x8x512, .f32⟩
  | .hbm, ⟨13, _⟩ => ⟨S_, .f32⟩
  | .hbm, ⟨14, _⟩ => ⟨S128x8x512, .f32⟩
  | .hbm, ⟨15, _⟩ => ⟨S128x8x512, .f32⟩
  | .hbm, ⟨16, _⟩ => ⟨S_, .f32⟩
  | .hbm, ⟨17, _⟩ => ⟨S128x8x512, .f32⟩
  | .hbm, ⟨18, _⟩ => ⟨S128x8x512, .f32⟩
  | .hbm, ⟨19, _⟩ => ⟨S128x8x512, .f32⟩
  | .hbm, ⟨20, _⟩ => ⟨S128x8x512, .f32⟩
  | .hbm, ⟨21, _⟩ => ⟨S128x8x512, .f32⟩
  | .hbm, ⟨22, _⟩ => ⟨S128x8x512, .f32⟩
  | .hbm, ⟨23, _⟩ => ⟨S128x8x512, .f32⟩
  | .hbm, ⟨24, _⟩ => ⟨S_, .f32⟩
  | .hbm, ⟨25, _⟩ => ⟨S128x8x512, .f32⟩
  | .hbm, ⟨26, _⟩ => ⟨S128x8x512, .f32⟩
  | .hbm, ⟨27, _⟩ => ⟨S_, .f32⟩
  | .hbm, ⟨28, _⟩ => ⟨S128x8x512, .f32⟩
  | .hbm, ⟨29, _⟩ => ⟨S128x8x512, .f32⟩
  | .hbm, ⟨30, _⟩ => ⟨S128x8x512, .f32⟩
  | .hbm, ⟨31, _⟩ => ⟨S128x8x512, .f32⟩
  | .hbm, ⟨32, _⟩ => ⟨S128x8x1024, .f32⟩
  | .hbm, ⟨33, _⟩ => ⟨S128x8x1024, .f32⟩
  | .hbm, ⟨34, _⟩ => ⟨S_, .f32⟩
  | .hbm, ⟨35, _⟩ => ⟨S128x8x1024, .f32⟩
  | .hbm, ⟨36, _⟩ => ⟨S128x8x1024, .f32⟩
  | .hbm, ⟨37, _⟩ => ⟨S_, .f32⟩
  | .hbm, ⟨38, _⟩ => ⟨S128x8x1024, .f32⟩
  | .hbm, ⟨39, _⟩ => ⟨S128x8x1024, .f32⟩
  | .hbm, ⟨40, _⟩ => ⟨S128x8x1024, .f32⟩
  | .hbm, ⟨41, _⟩ => ⟨S128x8x1024, .f32⟩
  | .hbm, ⟨42, _⟩ => ⟨S128x8x1024, .f32⟩
  | .hbm, ⟨43, _⟩ => ⟨S128x8x1024, .f32⟩
  | .hbm, ⟨44, _⟩ => ⟨S_, .f32⟩
  | .hbm, ⟨45, _⟩ => ⟨S128x8x1024, .f32⟩
  | .hbm, ⟨46, _⟩ => ⟨S128x8x1024, .f32⟩
  | .hbm, ⟨47, _⟩ => ⟨S_, .f32⟩
  | .hbm, ⟨48, _⟩ => ⟨S128x8x1024, .f32⟩
  | .hbm, ⟨49, _⟩ => ⟨S128x8x1024, .f32⟩
  | .hbm, ⟨50, _⟩ => ⟨S128x8x1024, .f32⟩
  | .hbm, ⟨51, _⟩ => ⟨S128x8x1024, .f32⟩
  | .hbm, ⟨52, _⟩ => ⟨S128x8x1024, .f32⟩
  | .hbm, ⟨53, _⟩ => ⟨S128x8x1024, .f32⟩
  | .hbm, ⟨54, _⟩ => ⟨S128x8x1024, .f32⟩
  | .hbm, ⟨55, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_cst_0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩

abbrev nD : Nat := 1
abbrev τ : Topo := Topo.v7x

variable {F : FTy → Type} [FloatOps F]
-- ==== Proof.Model.lean ====
/-
  What the attention kernel keeps between the key tiles, as a function of the blocks it reads: the running maximum, the
  running sum and the running weighted sum after each tile of 512 keys, the last tile (masked at the diagonal) and the
  block of the result the kernel stores.
-/
module

public import proofs.«01_k».proof.Proof.Gen.MlaIdeal.Skeleton
public import Idealize.ShloMosaic.Lib.VecWindow

@[expose] public section

set_option maxRecDepth 16384

noncomputable section

namespace Cert.MlaIdeal.Att

open Idealize.ShloMosaic Idealize.ShloMosaic.TcCoe Cert.MlaIdeal Cert.MlaIdeal.Gen

variable {F : FTy → Type} [FloatOps F]

theorem kvt_inb (n : ℕ) : ∀ a, (![512 * (n % 16), 0] : Fin 2 → ℕ) a + S512x384.size a ≤ S8192x384.size a := fun a => by
  have : n % 16 < 16 := Nat.mod_lt _ (by decide)
  fin_cases a
  · show 512 * (n % 16) + 512 ≤ 8192; omega
  · show 0 + 384 ≤ 384; omega

/-- Tile `n` of 512 keys out of a batch's 8192. -/
def kvt (x3 : Vec F S8192x384 .bf16) (n : ℕ) : Vec F S512x384 .bf16 :=
  VecWindow.window x3 ![512 * (n % 16), 0] S512x384.size (kvt_inb n)

theorem wt_inb (h : ℕ) : ∀ a, (![h % 8, 0, 0] : Fin 3 → ℕ) a + S1x256x512.size a ≤ S8x256x512.size a := fun a => by
  have : h % 8 < 8 := Nat.mod_lt _ (by decide)
  fin_cases a
  · show h % 8 + 1 ≤ 8; omega
  · show 0 + 256 ≤ 256; omega
  · show 0 + 512 ≤ 512; omega

/-- Head `h`'s projection out of the eight. -/
def wt (x4 : Vec F S8x256x512 .bf16) (h : ℕ) : Vec F S1x256x512 .bf16 :=
  VecWindow.window x4 ![h % 8, 0, 0] S1x256x512.size (wt_inb h)

/-- The running maximum, the running sum of weights, the running weighted sum of keys. -/
structure St (F : FTy → Type) where
  m : FVec F S2048x128 .f32
  l : FVec F S2048x128 .f32
  a : FVec F S2048x256 .f32

/-- Before any tile. -/
def init : St F := ⟨k0_pay79, k0_pay80, k0_pay81⟩

/-- The scores of the queries against a tile. -/
def sc (qs : FVec F S2048x384 .bf16) (kv : Vec F S512x384 .bf16) : FVec F S1x2048x512 .f32 := k0_pay2 qs kv

/-- One unmasked tile taken in. -/
def upd (s : FVec F S1x2048x512 .f32) (kv : Vec F S512x384 .bf16) (z : St F) : St F :=
  ⟨k0_pay11 (k0_pay4 s z.m), k0_pay7 s z.m z.l, k0_pay10 (k0_pay8 s z.m z.a) (k0_pay9 s z.m) kv⟩

/-- The last tile where the queries end in its first half: its first 256 keys, masked. -/
def updH (s : FVec F S1x2048x512 .f32) (kv : Vec F S512x384 .bf16) (z : St F) : St F :=
  ⟨k0_pay92 (k0_pay33 s z.m), k0_pay36 s z.m z.l, k0_pay91 (k0_pay37 s z.m z.a) (k0_pay38 s z.m) (k0_pay39 kv)⟩

/-- The last tile where the queries end in its second half: all its keys, masked. -/
def updD (s : FVec F S1x2048x512 .f32) (kv : Vec F S512x384 .bf16) (z : St F) : St F :=
  ⟨k0_pay97 (k0_pay56 s z.m), k0_pay59 s z.m z.l,
    k0_pay96 (k0_pay60 s z.m z.a) (k0_pay61 s z.m) (k0_pay62 kv) (constant S2048x256 .f32 0x00000000#32)⟩

/-- After the first `n` tiles. -/
def stN (qs : FVec F S2048x384 .bf16) (x3 : Vec F S8192x384 .bf16) : ℕ → St F
  | 0 => init
  | n + 1 => upd (sc qs (kvt x3 n)) (kvt x3 n) (stN qs x3 n)

/-- After the last tile of query block `j`. -/
def fin (qs : FVec F S2048x384 .bf16) (x3 : Vec F S8192x384 .bf16) (j : ℕ) : St F :=
  if j % 2 = 0 then updH (sc qs (kvt x3 (j / 2))) (kvt x3 (j / 2)) (stN qs x3 (j / 2))
  else updD (sc qs (kvt x3 (j / 2))) (kvt x3 (j / 2)) (stN qs x3 (j / 2))

/-- The block of the result from the last state. -/
def outOf (z : St F) (x4 : Vec F S8x256x512 .bf16) : FVec F S256x512 .f32 :=
  k0_pay1 (k0_pay101 z.a z.l) (k0_pay102 z.a z.l (wt x4 0) (wt x4 1) (wt x4 2) (wt x4 3) (wt x4 4)) (k0_pay103 z.a z.l)
    (wt x4 5) (wt x4 6) (wt x4 7)

/-- What query block `j` stores. -/
def out (x2 : Vec F S256x3072 .bf16) (x3 : Vec F S8192x384 .bf16) (x4 : Vec F S8x256x512 .bf16) (j : ℕ) : FVec F S256x512 .f32 :=
  outOf (fin (k0_pay78 x2) x3 j) x4

end Cert.MlaIdeal.Att

end
-- ==== Proof.Body.lean ====
/-
  The attention kernel's body, run once: from the blocks it is handed it leaves in the result's block what
  `Proof/Model.lean` says.
-/
module

public import proofs.«01_k».proof.Proof.Model
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import Idealize.ShloMosaic.Lib.Pipeline.FrameBody
public import Idealize.ShloMosaic.Lib.Exec
public import Idealize.ShloMosaic.Lib.Tactic

@[expose] public section

set_option maxRecDepth 16384

noncomputable section

namespace Cert.MlaIdeal.Att

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The grid's closed forms -/

theorem trips1_eq : ∀ i : grid0.Coords, (k0_t1_loop i).trips = (i 1).val / 4 := by decide +kernel
theorem trips2_eq : ∀ i : grid0.Coords, (k0_t2_loop i).trips = 0 := by decide +kernel
theorem cond1_iff : ∀ i : grid0.Coords, k0_cond1 i = 1#1 ↔ (i 1).val % 4 = 0 := by decide +kernel
theorem cond2_iff : ∀ i : grid0.Coords, k0_cond2 i = 1#1 ↔ (i 1).val % 4 = 2 := by decide +kernel
theorem cond3_iff : ∀ i : grid0.Coords, k0_cond3 i = 1#1 ↔ (i 1).val % 4 = 1 := by decide +kernel
theorem cond4_iff : ∀ i : grid0.Coords, k0_cond4 i = 1#1 ↔ (i 1).val % 4 = 3 := by decide +kernel
theorem off1_1 : ∀ (i : grid0.Coords) (k : Fin (k0_t1_loop i).trips), k0_off1 i k 1#32 = ![512 * (2 * k.val + 1), 0] := by decide +kernel
theorem off1_2 : ∀ (i : grid0.Coords) (k : Fin (k0_t1_loop i).trips), k0_off1 i k 2#32 = ![512 * (2 * k.val + 2), 0] := by decide +kernel
theorem off2_eq : ∀ (i : grid0.Coords) (k : Fin (k0_t1_loop i).trips), k0_off2 i k = ![512 * (2 * k.val), 0] := by decide +kernel

theorem off5_eq : ∀ i : grid0.Coords, k0_off5 i = ![512 * ((i 1).val / 2), 0] := by decide +kernel
theorem off6_eq : ∀ i : grid0.Coords, k0_off6 i = ![512 * ((i 1).val / 2), 0] := by decide +kernel
theorem off8_eq : ∀ i : grid0.Coords, k0_off8 i = ![512 * ((i 1).val / 2), 0] := by decide +kernel
theorem off9_eq : ∀ i : grid0.Coords, k0_off9 i = ![512 * ((i 1).val / 2), 0] := by decide +kernel
theorem off7_eq : ∀ i : grid0.Coords, 2 ≤ (i 1).val → k0_off7 i = ![512 * ((i 1).val / 2 - 1), 0] := by decide +kernel
theorem off10_eq : ∀ i : grid0.Coords, 2 ≤ (i 1).val → k0_off10 i = ![512 * ((i 1).val / 2 - 1), 0] := by decide +kernel

/-! ## One trip of the tile loop -/

section Trip

variable (c : Dev nD) (arg3 : Memref sig .tc .vmem S8192x384 .bf16) (arg6 : Memref sig .tc .vmem S2x2048x512 .f32)
  (arg7 : Memref sig .tc .vmem S2048x128 .f32) (arg8 : Memref sig .tc .vmem S2048x128 .f32) (arg9 : Memref sig .tc .vmem S2048x256 .f32)

/-- The first score buffer of the two. -/
abbrev R6 : Rect S2x2048x512 := Rect.unit (s := S2x2048x512) ![0, 0, 0] S1x2048x512.size inb_S2x2048x512_S1x2048x512_0_0_0
/-- A running array of 128 lanes, whole. -/
abbrev R7 : Rect S2048x128 := Rect.unit (s := S2048x128) ![0, 0] S2048x128.size inb_S2048x128_S2048x128_0_0
/-- The running weighted sum, whole. -/
abbrev R9 : Rect S2048x256 := Rect.unit (s := S2048x256) ![0, 0] S2048x256.size inb_S2048x256_S2048x256_0_0

/-- A load of the box stored last reads what was stored. -/
theorem readAt_same {sp : Space} {S : Shape} {e : EltTy} (v : View sig .tc sp S e) (f : v.ty.Contents (Elt F)) {off size : Fin S.rank → ℕ}
    (inb inb' : ∀ a, off a + size a ≤ S.size a) (w : (Rect.unit off size inb).shape.Idx → Elt F e) (L : List (View.Piece (Elt F) S e)) :
    v.readAt (Elt F) (Rect.unit off size inb').toLoadRect (v.writes (Elt F) f (⟨Rect.unit off size inb, w⟩ :: L)) = w := by
  rw [View.readAt_unit v _ inb' rfl inb', View.read_writes_cons_put v _ inb w L rfl, VecWindow.window_put_same]

theorem readCov_same {sp : Space} {S : Shape} {e : EltTy} (v : View sig .tc sp S e) {off size : Fin S.rank → ℕ}
    (inb inb' : ∀ a, off a + size a ≤ S.size a) (w : (Rect.unit off size inb).shape.Idx → Elt F e) (L : List (View.Piece (Elt F) S e)) :
    v.readCov (⟨Rect.unit off size inb, w⟩ :: L) (Rect.unit off size inb').toLoadRect = w :=
  readAt_same v v.junk inb inb' w L

/-- A load of a box reads past a store to a disjoint box. -/
theorem readCov_past {sp : Space} {S : Shape} {e : EltTy} (v : View sig .tc sp S e) {off size off' size' : Fin S.rank → ℕ}
    (inb : ∀ a, off a + size a ≤ S.size a) (inb' inb'' : ∀ a, off' a + size' a ≤ S.size a) (a : Fin S.rank)
    (ha : off' a + size' a ≤ off a ∨ off a + size a ≤ off' a)
    (w : (Rect.unit off size inb).shape.Idx → Elt F e) (w' : (Rect.unit off' size' inb').shape.Idx → Elt F e) (L : List (View.Piece (Elt F) S e)) :
    v.readCov (⟨Rect.unit off size inb, w⟩ :: ⟨Rect.unit off' size' inb', w'⟩ :: L) (Rect.unit off' size' inb'').toLoadRect = w' := by
  show v.readAt (Elt F) _ (v.writes (Elt F) v.junk _) = w'
  rw [View.readAt_unit v _ inb'' rfl inb'', View.read_writes_cons_put v _ inb w _ rfl, VecWindow.window_put_of_disjoint _ _ _ _ _ _ _ a ha,
    View.read_writes_cons_put v _ inb' w' L rfl, VecWindow.window_put_same]

/-- A load of 512 keys at tile `n`'s offsets reads tile `n`. -/
theorem readAt_tile (X3 : BufTy.Contents (Elt F) arg3.view.ty) {off : Fin 2 → ℕ} {n : ℕ} (hn : n < 16)
    (inb : ∀ a, off a + S512x384.size a ≤ S8192x384.size a) (h : off = ![512 * n, 0]) :
    arg3.view.readAt (Elt F) (Rect.unit (s := S8192x384) off S512x384.size inb).toLoadRect X3 = kvt (arg3.view.read (Elt F) X3) n :=
  View.readAt_unit arg3.view X3 inb (h.trans (by rw [Nat.mod_eq_of_lt hn])) (kvt_inb n)

/-- Between tiles: the keys as they are, the first score buffer holding `s`, the three running arrays holding `z`. -/
abbrev Held (X3 : BufTy.Contents (Elt F) arg3.view.ty) (s : FVec F S1x2048x512 .f32) (z : St F) : sProp 𝕄 :=
  iprop((arg3.view.loc (c : Thread nD τ) ↦[arg3.view.set]{fullShare} X3)
    ∗ (∃ f, (arg6.view.loc (c : Thread nD τ) ↦[arg6.view.set]{fullShare} f) ∗ ⌜arg6.view.readAt (Elt F) R6.toLoadRect f = s⌝)
    ∗ (∃ f, (arg7.view.loc (c : Thread nD τ) ↦[arg7.view.set]{fullShare} f) ∗ ⌜arg7.view.readAt (Elt F) R7.toLoadRect f = z.m⌝)
    ∗ (∃ f, (arg8.view.loc (c : Thread nD τ) ↦[arg8.view.set]{fullShare} f) ∗ ⌜arg8.view.readAt (Elt F) R7.toLoadRect f = z.l⌝)
    ∗ (∃ f, (arg9.view.loc (c : Thread nD τ) ↦[arg9.view.set]{fullShare} f) ∗ ⌜arg9.view.readAt (Elt F) R9.toLoadRect f = z.a⌝))

end Trip

/-- The second tile of a trip writes the same update in other pieces. -/
theorem upd_second (s : FVec F S1x2048x512 .f32) (z : St F) (kv : Vec F S512x384 .bf16) :
    (⟨k0_pay86 (k0_pay14 s z.m), k0_pay84 (k0_pay15 s z.m) (k0_pay16 s z.m) z.l, k0_pay85 (k0_pay15 s z.m) (k0_pay16 s z.m) z.a kv⟩ : St F) = upd s kv z := by
  rfl

/-- Where the last tile's scores go to the second buffer, the update and the masked update are written in other pieces. -/
theorem half_l (s : FVec F S1x2048x512 .f32) (z : St F) (qs : FVec F S2048x384 .bf16) (k1 k2 : Vec F S512x384 .bf16) :
    k0_pay93 (k0_pay54 (k0_pay40 qs k2) (k0_pay49 (k0_pay42 s z.m)) (k0_pay45 s z.m z.l)) = (updH (sc qs k2) k2 (upd s k1 z)).l := rfl
theorem half_a (s : FVec F S1x2048x512 .f32) (z : St F) (qs : FVec F S2048x384 .bf16) (k1 k2 : Vec F S512x384 .bf16) :
    k0_pay94 (k0_pay52 (k0_pay40 qs k2) (k0_pay49 (k0_pay42 s z.m))) (k0_pay53 (k0_pay40 qs k2) (k0_pay49 (k0_pay42 s z.m)))
      (k0_pay48 (k0_pay46 s z.m z.a) (k0_pay47 s z.m) k1) k2 = (updH (sc qs k2) k2 (upd s k1 z)).a := rfl
theorem full_l (s : FVec F S1x2048x512 .f32) (z : St F) (qs : FVec F S2048x384 .bf16) (k1 k2 : Vec F S512x384 .bf16) :
    k0_pay98 (k0_pay77 (k0_pay63 qs k2) (k0_pay72 (k0_pay65 s z.m)) (k0_pay68 s z.m z.l)) = (updD (sc qs k2) k2 (upd s k1 z)).l := rfl
theorem full_a (s : FVec F S1x2048x512 .f32) (z : St F) (qs : FVec F S2048x384 .bf16) (k1 k2 : Vec F S512x384 .bf16) :
    k0_pay99 (k0_pay75 (k0_pay63 qs k2) (k0_pay72 (k0_pay65 s z.m))) (k0_pay76 (k0_pay63 qs k2) (k0_pay72 (k0_pay65 s z.m)))
      (k0_pay71 (k0_pay69 s z.m z.a) (k0_pay70 s z.m) k1) k2 = (updD (sc qs k2) k2 (upd s k1 z)).a := rfl

set_option warn.classDefReducibility false in
/-- The tile loop by its invariant: before trip `k`, `2 k` tiles are taken in and the scores of tile `2 k` wait. -/
@[sl_loop] def loop1 (c : Dev nD) (i : grid0.Coords) (arg2 : Memref sig .tc .vmem S256x3072 .bf16) (harg2 : arg2.IsWhole) (arg3 : Memref sig .tc .vmem S8192x384 .bf16) (harg3 : arg3.IsWhole) (arg4 : Memref sig .tc .vmem S8x256x512 .bf16) (harg4 : arg4.IsWhole) (arg5 : Memref sig .tc .vmem S256x512 .f32) (harg5 : arg5.IsWhole) (arg6 : Memref sig .tc .vmem S2x2048x512 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole) (arg1 : BitVec 32) (v10 : FVec F S2048x384 .bf16) (v23 v32 c0 : BitVec 32)
    (X3 : BufTy.Contents (Elt F) arg3.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg1 v10 v23 v32 c0 where
  inv k _ := Held c arg3 arg6 arg7 arg8 arg9 X3 (sc v10 (kvt (arg3.view.read (Elt F) X3) (2 * k))) (stN v10 (arg3.view.read (Elt F) X3) (2 * k))
  step k _ := by
    unfold k0_t1_body
    have hk : k.val < (i 1).val / 4 := lt_of_lt_of_eq k.isLt (trips1_eq i)
    have hi : (i 1).val < 32 := (i 1).isLt
    have e1 := readAt_tile arg3 X3 (n := 2 * k.val + 1) (by omega) (k0_off1_inb i k 0) (off1_1 i k)
    have e2 := readAt_tile arg3 X3 (n := 2 * k.val + 2) (by omega) (k0_off1_inb i k 1) (off1_2 i k)
    have e0 := readAt_tile arg3 X3 (n := 2 * k.val) (by omega) (k0_off2_inb i k) (off2_eq i k)
    iintro ⟨H3, ⟨%f6, H6, %h6⟩, ⟨%f7, H7, %h7⟩, ⟨%f8, H8, %h8⟩, ⟨%f9, H9, %h9⟩⟩
    sl_exec
    sl_step
    isplitl [H3]; · iexact H3
    isplitl [H6]
    · iexists _; isplitl [H6]; · iexact H6
      ipureintro
      exact readAt_same _ _ _ _ _ _
    isplitl [H7]
    · iexists _; isplitl [H7]; · iexact H7
      ipureintro
      refine (readAt_same _ _ _ _ _ _).trans ?_
      unfold loop1.sl.r_3 loop1.sl.v174 loop1.sl.v176 loop1.sl.H7_1 loop1.sl.H6_2
      rw [readCov_past _ _ _ _ 0 (.inr (by decide)), readCov_same]
      exact congrArg St.m (upd_second (F := F) (sc v10 (kvt (arg3.view.read (Elt F) X3) (2 * k.val + 1))) (stN v10 (arg3.view.read (Elt F) X3) (2 * k.val + 1)) (kvt (arg3.view.read (Elt F) X3) (2 * k.val + 1)))
    isplitl [H8]
    · iexists _; isplitl [H8]; · iexact H8
      ipureintro
      refine (readAt_same _ _ _ _ _ _).trans ?_
      unfold loop1.sl.r_4 loop1.sl.r_5 loop1.sl.v186 loop1.sl.v174 loop1.sl.v176 loop1.sl.H7_1 loop1.sl.H8_1 loop1.sl.H6_2
      rw [readCov_past _ _ _ _ 0 (.inr (by decide)), readCov_same, readCov_same]
      exact congrArg St.l (upd_second (F := F) (sc v10 (kvt (arg3.view.read (Elt F) X3) (2 * k.val + 1))) (stN v10 (arg3.view.read (Elt F) X3) (2 * k.val + 1)) (kvt (arg3.view.read (Elt F) X3) (2 * k.val + 1)))
    iexists _; isplitl [H9]; · iexact H9
    ipureintro
    refine (readAt_same _ _ _ _ _ _).trans ?_
    unfold loop1.sl.r_4 loop1.sl.r_5 loop1.sl.v196 loop1.sl.v174 loop1.sl.v176 loop1.sl.H7_1 loop1.sl.H9_1 loop1.sl.H6_2
    rw [readCov_past _ _ _ _ 0 (.inr (by decide)), readCov_same, readCov_same]
    exact congrArg St.a (upd_second (F := F) (sc v10 (kvt (arg3.view.read (Elt F) X3) (2 * k.val + 1))) (stN v10 (arg3.view.read (Elt F) X3) (2 * k.val + 1)) (kvt (arg3.view.read (Elt F) X3) (2 * k.val + 1)))

set_option warn.classDefReducibility false in
/-- The second loop over tiles makes no trip. -/
@[sl_loop] def loop2 (c : Dev nD) (i : grid0.Coords) (arg2 : Memref sig .tc .vmem S256x3072 .bf16) (harg2 : arg2.IsWhole) (arg3 : Memref sig .tc .vmem S8192x384 .bf16) (harg3 : arg3.IsWhole) (arg4 : Memref sig .tc .vmem S8x256x512 .bf16) (harg4 : arg4.IsWhole) (arg5 : Memref sig .tc .vmem S256x512 .f32) (harg5 : arg5.IsWhole) (arg6 : Memref sig .tc .vmem S2x2048x512 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole) (arg1 : BitVec 32) (v10 : FVec F S2048x384 .bf16) (v23 v32 c0 v37 : BitVec 32) :
    LoopInvTy_k0_t2 (F := F) Unit ℕ (UR sig nD τ) ℕ Variants.none c none Set.univ i arg2 harg2 arg3 harg3 arg4 harg4 arg5 harg5 arg6 harg6 arg7 harg7 arg8 harg8 arg9 harg9 arg1 v10 v23 v32 c0 v37 where
  inv _ _ := iprop(emp)
  step k _ := absurd (lt_of_lt_of_eq k.isLt (trips2_eq i)) (Nat.not_lt_zero _)

section Point

variable (c : Dev nD) (arg2 : Memref sig .tc .vmem S256x3072 .bf16) (arg3 : Memref sig .tc .vmem S8192x384 .bf16) (arg4 : Memref sig .tc .vmem S8x256x512 .bf16)
  (arg5 : Memref sig .tc .vmem S256x512 .f32) (arg6 : Memref sig .tc .vmem S2x2048x512 .f32)
  (arg7 : Memref sig .tc .vmem S2048x128 .f32) (arg8 : Memref sig .tc .vmem S2048x128 .f32) (arg9 : Memref sig .tc .vmem S2048x256 .f32)

/-- A load of one head's projection. -/
theorem readAt_wt (X4 : BufTy.Contents (Elt F) arg4.view.ty) (h : ℕ) (hh : h < 8) (inb : ∀ a, (![h, 0, 0] : Fin 3 → ℕ) a + S1x256x512.size a ≤ S8x256x512.size a) :
    arg4.view.readAt (Elt F) (Rect.unit (s := S8x256x512) ![h, 0, 0] S1x256x512.size inb).toLoadRect X4 = wt (arg4.view.read (Elt F) X4) h :=
  View.readAt_unit arg4.view X4 inb (by rw [Nat.mod_eq_of_lt hh]) (wt_inb h)

/-- Before a grid point: the three blocks, and the result block and the scratch arrays at anything. -/
abbrev PointPre (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} X8) ∗ (arg9.view.loc (c : Thread nD τ) ↦[arg9.view.set]{fullShare} X9))

/-- After grid point `i`: the blocks as they were, the result block holding what its query block stores. -/
abbrev PointPost (i : grid0.Coords) (X2 : BufTy.Contents (Elt F) arg2.view.ty) (X3 : BufTy.Contents (Elt F) arg3.view.ty) (X4 : BufTy.Contents (Elt F) arg4.view.ty) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4)
    ∗ (∃ f, (arg5.view.loc (c : Thread nD τ) ↦[arg5.view.set]{fullShare} f)
        ∗ ⌜arg5.view.read (Elt F) f = out (arg2.view.read (Elt F) X2) (arg3.view.read (Elt F) X3) (arg4.view.read (Elt F) X4) (i 1).val⌝)
    ∗ (∃ f, (arg6.view.loc (c : Thread nD τ) ↦[arg6.view.set]{fullShare} f)) ∗ (∃ f, (arg7.view.loc (c : Thread nD τ) ↦[arg7.view.set]{fullShare} f))
    ∗ (∃ f, (arg8.view.loc (c : Thread nD τ) ↦[arg8.view.set]{fullShare} f)) ∗ (∃ f, (arg9.view.loc (c : Thread nD τ) ↦[arg9.view.set]{fullShare} f)))

theorem stN_succ (qs : FVec F S2048x384 .bf16) (x3 : Vec F S8192x384 .bf16) (n : ℕ) :
    stN qs x3 (n + 1) = upd (sc qs (kvt x3 n)) (kvt x3 n) (stN qs x3 n) := rfl

/-- What the body stores before the loop is the loop's state before its first trip. -/
theorem entry6 (X6 : BufTy.Contents (Elt F) arg6.view.ty) (x2 : Vec F S256x3072 .bf16) (x3 : Vec F S8192x384 .bf16) :
    arg6.view.readAt (Elt F) R6.toLoadRect (arg6.view.writes (Elt F) X6 [⟨R6, k0_pay82 x2 (kvt x3 0)⟩]) = sc (k0_pay78 x2) (kvt x3 (2 * 0)) :=
  readAt_same _ _ _ _ _ _
theorem entry7 (X7 : BufTy.Contents (Elt F) arg7.view.ty) (qs : FVec F S2048x384 .bf16) (x3 : Vec F S8192x384 .bf16) :
    arg7.view.readAt (Elt F) R7.toLoadRect (arg7.view.writes (Elt F) X7 [⟨R7, k0_pay79⟩]) = (stN qs x3 (2 * 0)).m :=
  readAt_same _ _ _ _ _ _
theorem entry8 (X8 : BufTy.Contents (Elt F) arg8.view.ty) (qs : FVec F S2048x384 .bf16) (x3 : Vec F S8192x384 .bf16) :
    arg8.view.readAt (Elt F) R7.toLoadRect (arg8.view.writes (Elt F) X8 [⟨R7, k0_pay80⟩]) = (stN qs x3 (2 * 0)).l :=
  readAt_same _ _ _ _ _ _
theorem entry9 (X9 : BufTy.Contents (Elt F) arg9.view.ty) (qs : FVec F S2048x384 .bf16) (x3 : Vec F S8192x384 .bf16) :
    arg9.view.readAt (Elt F) R9.toLoadRect (arg9.view.writes (Elt F) X9 [⟨R9, k0_pay81⟩]) = (stN qs x3 (2 * 0)).a :=
  readAt_same _ _ _ _ _ _

end Point

attribute [local irreducible] View.readAt View.writes sc stN in
theorem point0 (c : Dev nD) (i : grid0.Coords) (arg2 : Memref sig .tc .vmem S256x3072 .bf16) (harg2 : arg2.IsWhole) (arg3 : Memref sig .tc .vmem S8192x384 .bf16) (harg3 : arg3.IsWhole) (arg4 : Memref sig .tc .vmem S8x256x512 .bf16) (harg4 : arg4.IsWhole) (arg5 : Memref sig .tc .vmem S256x512 .f32) (harg5 : arg5.IsWhole) (arg6 : Memref sig .tc .vmem S2x2048x512 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole)
    (h : (i 1).val % 4 = 0) (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) :
    PointPre c arg2 arg3 arg4 arg5 arg6 arg7 arg8 arg9 X2 X3 X4 X5 X6 X7 X8 X9
      ⊢ wp frame (wpE (defs₀ (F := F)) Variants.none c none) Set.univ
          (cc0_mla_prompt i arg2 harg2 arg3 harg3 arg4 harg4 arg5 harg5 arg6 harg6 arg7 harg7 arg8 harg8 arg9 harg9)
          (fun _ => PointPost c arg2 arg3 arg4 arg5 arg6 arg7 arg8 arg9 i X2 X3 X4) := by
  have hi : (i 1).val < 32 := (i 1).isLt
  have htr := trips2_eq i
  have ht : 2 * Scf.trips (k0_t1_loop i).lb (k0_t1_loop i).ub (k0_t1_loop i).st = (i 1).val / 2 := by
    have := trips1_eq i
    rw [Scf.Loop.trips] at this; omega
  have hp : (i 1).val % 2 = 0 := by omega
  have hc1 : k0_cond1 i = 1#1 := (cond1_iff i).2 h
  have hc2 : ¬ k0_cond2 i = 1#1 := fun e => by have := (cond2_iff i).1 e; omega
  have hc3 : ¬ k0_cond3 i = 1#1 := fun e => by have := (cond3_iff i).1 e; omega
  have hc4 : ¬ k0_cond4 i = 1#1 := fun e => by have := (cond4_iff i).1 e; omega
  have e2 := View.readAt_full arg2.view X2 inb_S256x3072_S256x3072_0_0
  have e3 := readAt_tile arg3 X3 (n := 0) (by decide) inb_S8192x384_S512x384_0_0 rfl
  have e5 := readAt_tile arg3 X3 (n := (i 1).val / 2) (by omega) (k0_off5_inb i hc1) (off5_eq i)
  have w0 := readAt_wt arg4 X4 0 (by decide) inb_S8x256x512_S1x256x512_0_0_0
  have w1 := readAt_wt arg4 X4 1 (by decide) inb_S8x256x512_S1x256x512_1_0_0
  have w2 := readAt_wt arg4 X4 2 (by decide) inb_S8x256x512_S1x256x512_2_0_0
  have w3 := readAt_wt arg4 X4 3 (by decide) inb_S8x256x512_S1x256x512_3_0_0
  have w4 := readAt_wt arg4 X4 4 (by decide) inb_S8x256x512_S1x256x512_4_0_0
  have w5 := readAt_wt arg4 X4 5 (by decide) inb_S8x256x512_S1x256x512_5_0_0
  have w6 := readAt_wt arg4 X4 6 (by decide) inb_S8x256x512_S1x256x512_6_0_0
  have w7 := readAt_wt arg4 X4 7 (by decide) inb_S8x256x512_S1x256x512_7_0_0
  have p6 := entry6 arg6 X6 (arg2.view.read (Elt F) X2) (arg3.view.read (Elt F) X3)
  have p7 := entry7 arg7 arg7.view.junk (k0_pay78 (arg2.view.read (Elt F) X2)) (arg3.view.read (Elt F) X3)
  have p8 := entry8 arg8 arg8.view.junk (k0_pay78 (arg2.view.read (Elt F) X2)) (arg3.view.read (Elt F) X3)
  have p9 := entry9 arg9 arg9.view.junk (k0_pay78 (arg2.view.read (Elt F) X2)) (arg3.view.read (Elt F) X3)
  iintro ⟨H2, H3, H4, H5, H6, H7, H8, H9⟩
  unfold cc0_mla_prompt
  sl_exec
  sl_step
  isplitl [H2]; · iexact H2
  isplitl [H3]; · iexact H3
  isplitl [H4]; · iexact H4
  isplitl [H5]
  · iexists _; isplitl [H5]; · iexact H5
    ipureintro
    refine (View.read_writes_full _ _ _ _ _).trans ?_
    try unfold point0.sl.v111
    try unfold point0.sl.v106
    try unfold point0.sl.v110
    try unfold point0.sl.v101
    try unfold point0.sl.v105
    try unfold point0.sl.v109
    try unfold point0.sl.v107
    try unfold point0.sl.v104
    try unfold point0.sl.v102
    try unfold point0.sl.v100
    try unfold point0.sl.v99
    try unfold point0.sl.r_7
    try unfold point0.sl.r_6
    try unfold point0.sl.r_5
    try unfold point0.sl.v67
    try unfold point0.sl.v66
    try unfold point0.sl.H9_1_1
    try unfold point0.sl.H8_1_1
    try unfold point0.sl.r_4
    try unfold point0.sl.r_3
    try unfold point0.sl.r_2
    try unfold point0.sl.r_1
    try unfold point0.sl.cst_63
    try unfold point0.sl.r
    simp only [readCov_same, ht]
    unfold out fin
    rw [if_pos hp]
    rfl
  isplitl [H6]; · iexists _; iexact H6
  isplitl [H7]; · iexists _; iexact H7
  isplitl [H8]; · iexists _; iexact H8
  iexists _; iexact H9

attribute [local irreducible] View.readAt View.writes sc stN in
theorem point1 (c : Dev nD) (i : grid0.Coords) (arg2 : Memref sig .tc .vmem S256x3072 .bf16) (harg2 : arg2.IsWhole) (arg3 : Memref sig .tc .vmem S8192x384 .bf16) (harg3 : arg3.IsWhole) (arg4 : Memref sig .tc .vmem S8x256x512 .bf16) (harg4 : arg4.IsWhole) (arg5 : Memref sig .tc .vmem S256x512 .f32) (harg5 : arg5.IsWhole) (arg6 : Memref sig .tc .vmem S2x2048x512 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole)
    (h : (i 1).val % 4 = 1) (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) :
    PointPre c arg2 arg3 arg4 arg5 arg6 arg7 arg8 arg9 X2 X3 X4 X5 X6 X7 X8 X9
      ⊢ wp frame (wpE (defs₀ (F := F)) Variants.none c none) Set.univ
          (cc0_mla_prompt i arg2 harg2 arg3 harg3 arg4 harg4 arg5 harg5 arg6 harg6 arg7 harg7 arg8 harg8 arg9 harg9)
          (fun _ => PointPost c arg2 arg3 arg4 arg5 arg6 arg7 arg8 arg9 i X2 X3 X4) := by
  have hi : (i 1).val < 32 := (i 1).isLt
  have htr := trips2_eq i
  have ht : 2 * Scf.trips (k0_t1_loop i).lb (k0_t1_loop i).ub (k0_t1_loop i).st = (i 1).val / 2 := by
    have := trips1_eq i
    rw [Scf.Loop.trips] at this; omega
  have hp : ¬ (i 1).val % 2 = 0 := by omega
  have hc1 : ¬ k0_cond1 i = 1#1 := fun e => by have := (cond1_iff i).1 e; omega
  have hc2 : ¬ k0_cond2 i = 1#1 := fun e => by have := (cond2_iff i).1 e; omega
  have hc3 : k0_cond3 i = 1#1 := (cond3_iff i).2 h
  have hc4 : ¬ k0_cond4 i = 1#1 := fun e => by have := (cond4_iff i).1 e; omega
  have e2 := View.readAt_full arg2.view X2 inb_S256x3072_S256x3072_0_0
  have e3 := readAt_tile arg3 X3 (n := 0) (by decide) inb_S8192x384_S512x384_0_0 rfl
  have e5 := readAt_tile arg3 X3 (n := (i 1).val / 2) (by omega) (k0_off8_inb i hc3) (off8_eq i)
  have w0 := readAt_wt arg4 X4 0 (by decide) inb_S8x256x512_S1x256x512_0_0_0
  have w1 := readAt_wt arg4 X4 1 (by decide) inb_S8x256x512_S1x256x512_1_0_0
  have w2 := readAt_wt arg4 X4 2 (by decide) inb_S8x256x512_S1x256x512_2_0_0
  have w3 := readAt_wt arg4 X4 3 (by decide) inb_S8x256x512_S1x256x512_3_0_0
  have w4 := readAt_wt arg4 X4 4 (by decide) inb_S8x256x512_S1x256x512_4_0_0
  have w5 := readAt_wt arg4 X4 5 (by decide) inb_S8x256x512_S1x256x512_5_0_0
  have w6 := readAt_wt arg4 X4 6 (by decide) inb_S8x256x512_S1x256x512_6_0_0
  have w7 := readAt_wt arg4 X4 7 (by decide) inb_S8x256x512_S1x256x512_7_0_0
  have p6 := entry6 arg6 X6 (arg2.view.read (Elt F) X2) (arg3.view.read (Elt F) X3)
  have p7 := entry7 arg7 arg7.view.junk (k0_pay78 (arg2.view.read (Elt F) X2)) (arg3.view.read (Elt F) X3)
  have p8 := entry8 arg8 arg8.view.junk (k0_pay78 (arg2.view.read (Elt F) X2)) (arg3.view.read (Elt F) X3)
  have p9 := entry9 arg9 arg9.view.junk (k0_pay78 (arg2.view.read (Elt F) X2)) (arg3.view.read (Elt F) X3)
  iintro ⟨H2, H3, H4, H5, H6, H7, H8, H9⟩
  unfold cc0_mla_prompt
  sl_exec
  sl_step
  isplitl [H2]; · iexact H2
  isplitl [H3]; · iexact H3
  isplitl [H4]; · iexact H4
  isplitl [H5]
  · iexists _; isplitl [H5]; · iexact H5
    ipureintro
    refine (View.read_writes_full _ _ _ _ _).trans ?_
    repeat (first | unfold point1.sl.v111 | unfold point1.sl.v106 | unfold point1.sl.v110 | unfold point1.sl.v101 | unfold point1.sl.v105 | unfold point1.sl.v109 | unfold point1.sl.v107 | unfold point1.sl.v104 | unfold point1.sl.v102 | unfold point1.sl.v100 | unfold point1.sl.v99 | unfold point1.sl.v66 | unfold point1.sl.v67 | unfold point1.sl.cst_63 | unfold point1.sl.cst_87 | unfold point1.sl.H7_1 | unfold point1.sl.H8_1 | unfold point1.sl.H9_1 | unfold point1.sl.H8_2 | unfold point1.sl.H9_2 | unfold point1.sl.H9_1_1 | unfold point1.sl.H8_1_1 | unfold point1.sl.H7_1_1 | unfold point1.sl.H6_1 | unfold point1.sl.r | unfold point1.sl.r_1 | unfold point1.sl.r_2 | unfold point1.sl.r_3 | unfold point1.sl.r_4 | unfold point1.sl.r_5 | unfold point1.sl.r_6 | unfold point1.sl.r_7 | unfold point1.sl.r_8 | unfold point1.sl.r_9 | unfold point1.sl.r_10 | unfold point1.sl.v122 | unfold point1.sl.v148 | unfold point1.sl.v162 | unfold point1.sl.v173 | unfold point1.sl.v174 | unfold point1.sl.v183 | unfold point1.sl.v184 | unfold point1.sl.v193 | unfold point1.sl.v194)
    simp only [readCov_same, ht]
    unfold out fin
    rw [if_neg hp]
    rfl
  isplitl [H6]; · iexists _; iexact H6
  isplitl [H7]; · iexists _; iexact H7
  isplitl [H8]; · iexists _; iexact H8
  iexists _; iexact H9

attribute [local irreducible] View.readAt View.writes sc stN in
theorem point2 (c : Dev nD) (i : grid0.Coords) (arg2 : Memref sig .tc .vmem S256x3072 .bf16) (harg2 : arg2.IsWhole) (arg3 : Memref sig .tc .vmem S8192x384 .bf16) (harg3 : arg3.IsWhole) (arg4 : Memref sig .tc .vmem S8x256x512 .bf16) (harg4 : arg4.IsWhole) (arg5 : Memref sig .tc .vmem S256x512 .f32) (harg5 : arg5.IsWhole) (arg6 : Memref sig .tc .vmem S2x2048x512 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole)
    (h : (i 1).val % 4 = 2) (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) :
    PointPre c arg2 arg3 arg4 arg5 arg6 arg7 arg8 arg9 X2 X3 X4 X5 X6 X7 X8 X9
      ⊢ wp frame (wpE (defs₀ (F := F)) Variants.none c none) Set.univ
          (cc0_mla_prompt i arg2 harg2 arg3 harg3 arg4 harg4 arg5 harg5 arg6 harg6 arg7 harg7 arg8 harg8 arg9 harg9)
          (fun _ => PointPost c arg2 arg3 arg4 arg5 arg6 arg7 arg8 arg9 i X2 X3 X4) := by
  have hi : (i 1).val < 32 := (i 1).isLt
  have htr := trips2_eq i
  have ht : 2 * Scf.trips (k0_t1_loop i).lb (k0_t1_loop i).ub (k0_t1_loop i).st = (i 1).val / 2 - 1 := by
    have := trips1_eq i
    rw [Scf.Loop.trips] at this; omega
  have hp : (i 1).val % 2 = 0 := by omega
  have hc1 : ¬ k0_cond1 i = 1#1 := fun e => by have := (cond1_iff i).1 e; omega
  have hc2 : k0_cond2 i = 1#1 := (cond2_iff i).2 h
  have hc3 : ¬ k0_cond3 i = 1#1 := fun e => by have := (cond3_iff i).1 e; omega
  have hc4 : ¬ k0_cond4 i = 1#1 := fun e => by have := (cond4_iff i).1 e; omega
  have e2 := View.readAt_full arg2.view X2 inb_S256x3072_S256x3072_0_0
  have e3 := readAt_tile arg3 X3 (n := 0) (by decide) inb_S8192x384_S512x384_0_0 rfl
  have e5 := readAt_tile arg3 X3 (n := (i 1).val / 2) (by omega) (k0_off6_inb i hc2) (off6_eq i)
  have e6 := readAt_tile arg3 X3 (n := (i 1).val / 2 - 1) (by omega) (k0_off7_inb i hc2) (off7_eq i (by omega))
  have w0 := readAt_wt arg4 X4 0 (by decide) inb_S8x256x512_S1x256x512_0_0_0
  have w1 := readAt_wt arg4 X4 1 (by decide) inb_S8x256x512_S1x256x512_1_0_0
  have w2 := readAt_wt arg4 X4 2 (by decide) inb_S8x256x512_S1x256x512_2_0_0
  have w3 := readAt_wt arg4 X4 3 (by decide) inb_S8x256x512_S1x256x512_3_0_0
  have w4 := readAt_wt arg4 X4 4 (by decide) inb_S8x256x512_S1x256x512_4_0_0
  have w5 := readAt_wt arg4 X4 5 (by decide) inb_S8x256x512_S1x256x512_5_0_0
  have w6 := readAt_wt arg4 X4 6 (by decide) inb_S8x256x512_S1x256x512_6_0_0
  have w7 := readAt_wt arg4 X4 7 (by decide) inb_S8x256x512_S1x256x512_7_0_0
  have p6 := entry6 arg6 X6 (arg2.view.read (Elt F) X2) (arg3.view.read (Elt F) X3)
  have p7 := entry7 arg7 arg7.view.junk (k0_pay78 (arg2.view.read (Elt F) X2)) (arg3.view.read (Elt F) X3)
  have p8 := entry8 arg8 arg8.view.junk (k0_pay78 (arg2.view.read (Elt F) X2)) (arg3.view.read (Elt F) X3)
  have p9 := entry9 arg9 arg9.view.junk (k0_pay78 (arg2.view.read (Elt F) X2)) (arg3.view.read (Elt F) X3)
  iintro ⟨H2, H3, H4, H5, H6, H7, H8, H9⟩
  unfold cc0_mla_prompt
  sl_exec
  sl_step
  isplitl [H2]; · iexact H2
  isplitl [H3]; · iexact H3
  isplitl [H4]; · iexact H4
  isplitl [H5]
  · iexists _; isplitl [H5]; · iexact H5
    ipureintro
    refine (View.read_writes_full _ _ _ _ _).trans ?_
    repeat (first | unfold point2.sl.v111 | unfold point2.sl.v106 | unfold point2.sl.v110 | unfold point2.sl.v101 | unfold point2.sl.v105 | unfold point2.sl.v109 | unfold point2.sl.v107 | unfold point2.sl.v104 | unfold point2.sl.v102 | unfold point2.sl.v100 | unfold point2.sl.v99 | unfold point2.sl.v66 | unfold point2.sl.v67 | unfold point2.sl.cst_63 | unfold point2.sl.cst_87 | unfold point2.sl.H7_1 | unfold point2.sl.H8_1 | unfold point2.sl.H9_1 | unfold point2.sl.H8_2 | unfold point2.sl.H9_2 | unfold point2.sl.H9_1_1 | unfold point2.sl.H8_1_1 | unfold point2.sl.H7_1_1 | unfold point2.sl.H6_1 | unfold point2.sl.r | unfold point2.sl.r_1 | unfold point2.sl.r_2 | unfold point2.sl.r_3 | unfold point2.sl.r_4 | unfold point2.sl.r_5 | unfold point2.sl.r_6 | unfold point2.sl.r_7 | unfold point2.sl.r_8 | unfold point2.sl.r_9 | unfold point2.sl.r_10 | unfold point2.sl.v122 | unfold point2.sl.v148 | unfold point2.sl.v162 | unfold point2.sl.v173 | unfold point2.sl.v174 | unfold point2.sl.v183 | unfold point2.sl.v184 | unfold point2.sl.v193 | unfold point2.sl.v194)
    simp only [readCov_same, ht]
    generalize arg3.view.read (Elt F) X3 = x3
    generalize arg4.view.read (Elt F) X4 = x4
    generalize arg2.view.read (Elt F) X2 = x2
    unfold out fin
    rw [if_pos hp]
    obtain ⟨n, hn⟩ : ∃ n, (i 1).val / 2 = n + 1 := ⟨(i 1).val / 2 - 1, by omega⟩
    rw [hn, Nat.add_sub_cancel]
    generalize k0_pay78 x2 = qs
    rw [show stN qs x3 (n + 1) = upd (sc qs (kvt x3 n)) (kvt x3 n) (stN qs x3 n) from stN_succ qs x3 n]
    generalize stN qs x3 n = z
    generalize sc qs (kvt x3 n) = s
    generalize kvt x3 n = k1
    generalize kvt x3 (n+1) = k2
    rw [half_l s z qs k1 k2, half_a s z qs k1 k2]
    rfl
  isplitl [H6]; · iexists _; iexact H6
  isplitl [H7]; · iexists _; iexact H7
  isplitl [H8]; · iexists _; iexact H8
  iexists _; iexact H9

attribute [local irreducible] View.readAt View.writes sc stN in
theorem point3 (c : Dev nD) (i : grid0.Coords) (arg2 : Memref sig .tc .vmem S256x3072 .bf16) (harg2 : arg2.IsWhole) (arg3 : Memref sig .tc .vmem S8192x384 .bf16) (harg3 : arg3.IsWhole) (arg4 : Memref sig .tc .vmem S8x256x512 .bf16) (harg4 : arg4.IsWhole) (arg5 : Memref sig .tc .vmem S256x512 .f32) (harg5 : arg5.IsWhole) (arg6 : Memref sig .tc .vmem S2x2048x512 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole)
    (h : (i 1).val % 4 = 3) (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) :
    PointPre c arg2 arg3 arg4 arg5 arg6 arg7 arg8 arg9 X2 X3 X4 X5 X6 X7 X8 X9
      ⊢ wp frame (wpE (defs₀ (F := F)) Variants.none c none) Set.univ
          (cc0_mla_prompt i arg2 harg2 arg3 harg3 arg4 harg4 arg5 harg5 arg6 harg6 arg7 harg7 arg8 harg8 arg9 harg9)
          (fun _ => PointPost c arg2 arg3 arg4 arg5 arg6 arg7 arg8 arg9 i X2 X3 X4) := by
  have hi : (i 1).val < 32 := (i 1).isLt
  have htr := trips2_eq i
  have ht : 2 * Scf.trips (k0_t1_loop i).lb (k0_t1_loop i).ub (k0_t1_loop i).st = (i 1).val / 2 - 1 := by
    have := trips1_eq i
    rw [Scf.Loop.trips] at this; omega
  have hp : ¬ (i 1).val % 2 = 0 := by omega
  have hc1 : ¬ k0_cond1 i = 1#1 := fun e => by have := (cond1_iff i).1 e; omega
  have hc2 : ¬ k0_cond2 i = 1#1 := fun e => by have := (cond2_iff i).1 e; omega
  have hc3 : ¬ k0_cond3 i = 1#1 := fun e => by have := (cond3_iff i).1 e; omega
  have hc4 : k0_cond4 i = 1#1 := (cond4_iff i).2 h
  have e2 := View.readAt_full arg2.view X2 inb_S256x3072_S256x3072_0_0
  have e3 := readAt_tile arg3 X3 (n := 0) (by decide) inb_S8192x384_S512x384_0_0 rfl
  have e5 := readAt_tile arg3 X3 (n := (i 1).val / 2) (by omega) (k0_off9_inb i hc4) (off9_eq i)
  have e6 := readAt_tile arg3 X3 (n := (i 1).val / 2 - 1) (by omega) (k0_off10_inb i hc4) (off10_eq i (by omega))
  have w0 := readAt_wt arg4 X4 0 (by decide) inb_S8x256x512_S1x256x512_0_0_0
  have w1 := readAt_wt arg4 X4 1 (by decide) inb_S8x256x512_S1x256x512_1_0_0
  have w2 := readAt_wt arg4 X4 2 (by decide) inb_S8x256x512_S1x256x512_2_0_0
  have w3 := readAt_wt arg4 X4 3 (by decide) inb_S8x256x512_S1x256x512_3_0_0
  have w4 := readAt_wt arg4 X4 4 (by decide) inb_S8x256x512_S1x256x512_4_0_0
  have w5 := readAt_wt arg4 X4 5 (by decide) inb_S8x256x512_S1x256x512_5_0_0
  have w6 := readAt_wt arg4 X4 6 (by decide) inb_S8x256x512_S1x256x512_6_0_0
  have w7 := readAt_wt arg4 X4 7 (by decide) inb_S8x256x512_S1x256x512_7_0_0
  have p6 := entry6 arg6 X6 (arg2.view.read (Elt F) X2) (arg3.view.read (Elt F) X3)
  have p7 := entry7 arg7 arg7.view.junk (k0_pay78 (arg2.view.read (Elt F) X2)) (arg3.view.read (Elt F) X3)
  have p8 := entry8 arg8 arg8.view.junk (k0_pay78 (arg2.view.read (Elt F) X2)) (arg3.view.read (Elt F) X3)
  have p9 := entry9 arg9 arg9.view.junk (k0_pay78 (arg2.view.read (Elt F) X2)) (arg3.view.read (Elt F) X3)
  iintro ⟨H2, H3, H4, H5, H6, H7, H8, H9⟩
  unfold cc0_mla_prompt
  sl_exec
  sl_step
  isplitl [H2]; · iexact H2
  isplitl [H3]; · iexact H3
  isplitl [H4]; · iexact H4
  isplitl [H5]
  · iexists _; isplitl [H5]; · iexact H5
    ipureintro
    refine (View.read_writes_full _ _ _ _ _).trans ?_
    repeat (first | unfold point3.sl.v111 | unfold point3.sl.v106 | unfold point3.sl.v110 | unfold point3.sl.v101 | unfold point3.sl.v105 | unfold point3.sl.v109 | unfold point3.sl.v107 | unfold point3.sl.v104 | unfold point3.sl.v102 | unfold point3.sl.v100 | unfold point3.sl.v99 | unfold point3.sl.v66 | unfold point3.sl.v67 | unfold point3.sl.cst_63 | unfold point3.sl.cst_87 | unfold point3.sl.H7_1 | unfold point3.sl.H8_1 | unfold point3.sl.H9_1 | unfold point3.sl.H8_2 | unfold point3.sl.H9_2 | unfold point3.sl.H9_1_1 | unfold point3.sl.H8_1_1 | unfold point3.sl.H7_1_1 | unfold point3.sl.H6_1 | unfold point3.sl.r | unfold point3.sl.r_1 | unfold point3.sl.r_2 | unfold point3.sl.r_3 | unfold point3.sl.r_4 | unfold point3.sl.r_5 | unfold point3.sl.r_6 | unfold point3.sl.r_7 | unfold point3.sl.r_8 | unfold point3.sl.r_9 | unfold point3.sl.r_10 | unfold point3.sl.v122 | unfold point3.sl.v148 | unfold point3.sl.v162 | unfold point3.sl.v173 | unfold point3.sl.v174 | unfold point3.sl.v183 | unfold point3.sl.v184 | unfold point3.sl.v193 | unfold point3.sl.v194)
    simp only [readCov_same, ht]
    generalize arg3.view.read (Elt F) X3 = x3
    generalize arg4.view.read (Elt F) X4 = x4
    generalize arg2.view.read (Elt F) X2 = x2
    unfold out fin
    rw [if_neg hp]
    obtain ⟨n, hn⟩ : ∃ n, (i 1).val / 2 = n + 1 := ⟨(i 1).val / 2 - 1, by omega⟩
    rw [hn, Nat.add_sub_cancel]
    generalize k0_pay78 x2 = qs
    rw [show stN qs x3 (n + 1) = upd (sc qs (kvt x3 n)) (kvt x3 n) (stN qs x3 n) from stN_succ qs x3 n]
    generalize stN qs x3 n = z
    generalize sc qs (kvt x3 n) = s
    generalize kvt x3 n = k1
    generalize kvt x3 (n+1) = k2
    rw [full_l s z qs k1 k2, full_a s z qs k1 k2]
    rfl
  isplitl [H6]; · iexists _; iexact H6
  isplitl [H7]; · iexists _; iexact H7
  isplitl [H8]; · iexists _; iexact H8
  iexists _; iexact H9

/-- A grid point, whichever of the four ends it takes. -/
theorem point (c : Dev nD) (i : grid0.Coords) (arg2 : Memref sig .tc .vmem S256x3072 .bf16) (harg2 : arg2.IsWhole) (arg3 : Memref sig .tc .vmem S8192x384 .bf16) (harg3 : arg3.IsWhole) (arg4 : Memref sig .tc .vmem S8x256x512 .bf16) (harg4 : arg4.IsWhole) (arg5 : Memref sig .tc .vmem S256x512 .f32) (harg5 : arg5.IsWhole) (arg6 : Memref sig .tc .vmem S2x2048x512 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) :
    PointPre c arg2 arg3 arg4 arg5 arg6 arg7 arg8 arg9 X2 X3 X4 X5 X6 X7 X8 X9
      ⊢ wp frame (wpE (defs₀ (F := F)) Variants.none c none) Set.univ
          (cc0_mla_prompt i arg2 harg2 arg3 harg3 arg4 harg4 arg5 harg5 arg6 harg6 arg7 harg7 arg8 harg8 arg9 harg9)
          (fun _ => PointPost c arg2 arg3 arg4 arg5 arg6 arg7 arg8 arg9 i X2 X3 X4) := by
  have h : (i 1).val % 4 = 0 ∨ (i 1).val % 4 = 1 ∨ (i 1).val % 4 = 2 ∨ (i 1).val % 4 = 3 := by omega
  rcases h with h | h | h | h
  · exact point0 c i arg2 harg2 arg3 harg3 arg4 harg4 arg5 harg5 arg6 harg6 arg7 harg7 arg8 harg8 arg9 harg9 h X2 X3 X4 X5 X6 X7 X8 X9
  · exact point1 c i arg2 harg2 arg3 harg3 arg4 harg4 arg5 harg5 arg6 harg6 arg7 harg7 arg8 harg8 arg9 harg9 h X2 X3 X4 X5 X6 X7 X8 X9
  · exact point2 c i arg2 harg2 arg3 harg3 arg4 harg4 arg5 harg5 arg6 harg6 arg7 harg7 arg8 harg8 arg9 harg9 h X2 X3 X4 X5 X6 X7 X8 X9
  · exact point3 c i arg2 harg2 arg3 harg3 arg4 harg4 arg5 harg5 arg6 harg6 arg7 harg7 arg8 harg8 arg9 harg9 h X2 X3 X4 X5 X6 X7 X8 X9

end Cert.MlaIdeal.Att

end
-- ==== Proof.Run.lean ====
/-
  The attention kernel run from launch to end: the body at every grid point of the pipeline, and the program's run,
  with what every array holds at the end.
-/
module

public import proofs.«01_k».proof.Proof.Body

@[expose] public section

set_option maxRecDepth 16384

noncomputable section

namespace Cert.MlaIdeal.Att

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` stores: its query block against its batch's keys. -/
def outAt (c : Dev nD) (t : Fin cfg0.N) : FVec F S256x512 .f32 :=
  out (iblk m c 0 t) (iblk m c 1 t) (iblk m c 2 t) (grid0.coords t 1).val

/-- The proof data: the blocks stay as read, the result's block is `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after_0, after_1, after_2, after_3]
  rw [show (dats m 0 c).Φ t.castSucc = Pipeline.ΦA spec0 c from rfl]
  unfold Pipeline.ΦA
  rw [scopedRest0_eq]
  unfold Dat.owesAt Pipeline.owesWithin
  rw [show (dats m 0 c).owed t.castSucc = 0 from rfl, show (dats m 0 c).owed t.succ = 0 from rfl]
  simp only [before0_0_of m (dats m 0 c) (A_eq m c 0) (after_0 m c), before0_1_of m (dats m 0 c) (A_eq m c 1) (after_1 m c),
    before0_2_of m (dats m 0 c) (A_eq m c 2) (after_2 m c)]
  unfold owns
  iintro ⟨⟨⟨⟨%f6, H6⟩, ⟨%f7, H7⟩, ⟨%f8, H8⟩, ⟨%f9, H9⟩⟩, Hg⟩, ⟨%W, -, HW⟩, ⟨%d0, %f0, %h0, H0⟩, ⟨%d1, %f1, %h1, H1⟩, ⟨%d2, %f2, %h2, H2⟩, ⟨%d3, %f3, -, H3⟩⟩
  have hs0 : (Memref.whole cc0_scratch0 : Memref sig .tc .vmem S2x2048x512 .f32).view.set = Finset.univ := View.set_whole _
  have hs1 : (Memref.whole cc0_scratch1 : Memref sig .tc .vmem S2048x128 .f32).view.set = Finset.univ := View.set_whole _
  have hs2 : (Memref.whole cc0_scratch2 : Memref sig .tc .vmem S2048x128 .f32).view.set = Finset.univ := View.set_whole _
  have hs3 : (Memref.whole cc0_scratch3 : Memref sig .tc .vmem S2048x256 .f32).view.set = Finset.univ := View.set_whole _
  have key := point c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (Memref.whole cc0_scratch0) (Memref.isWhole_whole _) (Memref.whole cc0_scratch1) (Memref.isWhole_whole _)
    (Memref.whole cc0_scratch2) (Memref.isWhole_whole _) (Memref.whole cc0_scratch3) (Memref.isWhole_whole _) f0 f1 f2 f3 f6 f7 f8 f9
  unfold PointPre PointPost at key
  rw [hs0, hs1, hs2, hs3] at key
  iapply (wp_wand_r Idealize.ShloMosaic.frame (wpE (defs₀ (F := F)) Variants.none (c : Thread nD τ) none) Set.univ)
  isplitl [H0 H1 H2 H3 H6 H7 H8 H9]
  · iapply key
    isplitl [H0]; · iexact H0
    isplitl [H1]; · iexact H1
    isplitl [H2]; · iexact H2
    isplitl [H3]; · iexact H3
    isplitl [H6]; · iexact H6
    isplitl [H7]; · iexact H7
    isplitl [H8]; · iexact H8
    iexact H9
  iintro %_ ⟨H0, H1, H2, ⟨%e3, H3, %h3⟩, ⟨%e6, H6⟩, ⟨%e7, H7⟩, ⟨%e8, H8⟩, ⟨%e9, H9⟩⟩
  isplitl [H6 H7 H8 H9 Hg]
  · isplitl [H6 H7 H8 H9]
    · isplitl [H6]; · iexists e6; iexact H6
      isplitl [H7]; · iexists e7; iexact H7
      isplitl [H8]; · iexists e8; iexact H8
      iexists e9; iexact H9
    iexact Hg
  isplitl [HW]
  · iexists W; isplitr; · ipureintro; exact fun _ _ => Or.inl trivial
    iexact HW
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  iexists e3; isplitr
  · ipureintro
    rw [h3, h0, h1, h2]
    rfl
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run: it ends, the arrays hold what the proof data say, and every semaphore is back at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.MlaIdeal.Att

end
-- ==== Proof.Frames.lean ====
/-
  The three frames: the attention kernel's one run (`Proof/Run.lean`, at any float values) read at the machine's floats and
  at the extended reals, and the reference's run.
-/
module

public import proofs.«01_k».proof.Defs
public import proofs.«01_k».proof.Proof.Run
public import proofs.«01_k».proof.Proof.Gen.Mla
public import proofs.«01_k».proof.Proof.Gen.MlaIdeal
public import proofs.«01_k».proof.Proof.Gen.MlaRefIdeal
public import proofs.«01_k».proof.Proof.Gen.MlaRefIdeal.Run
public import Idealize.ShloMosaic.Lib.Quiescent
public import Idealize.ShloMosaic.Adequacy
public import Idealize.ShloMosaic.Init

@[expose] public section

noncomputable section

namespace Cert.MlaIdeal.Att

open Cert.MlaIdeal Cert.MlaIdeal.Gen
open Idealize.ShloMosaic Idealize.ShloMosaic.TcCoe Idealize.SL.Sem

variable {F : FTy → Type} [FloatOps F]

/-- The arguments end as launched and every semaphore at zero, for any float values. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c),
        ((h.1 c).2 main_arg3 (Pipeline.mem_restRefs_of main_arg3 (by decide) (by decide))).trans (V_main_arg3 m c)⟩, h.2⟩)
    (run_main m ρ)

end Cert.MlaIdeal.Att

namespace Cert.Proof

open Idealize.ShloMosaic Idealize.SL.Sem

section Same

local instance : Cert.Mla.Facts := Cert.Mla.Gen.facts
local instance : Cert.MlaIdeal.Facts := Cert.MlaIdeal.Gen.facts

set_option maxHeartbeats 1000000 in
/-- The two programs' attention kernels are one. -/
theorem kernel_same : Cert.Mla.cc0_mla_prompt (F := Bits) = Cert.MlaIdeal.cc0_mla_prompt (F := Bits) := rfl

/-- What the label calls is one. -/
theorem defs₀_same : Cert.Mla.defs₀ (F := Bits) = Cert.MlaIdeal.defs₀ (F := Bits) := by
  unfold Cert.Mla.defs₀ Cert.MlaIdeal.defs₀
  refine congrArg Defs.onTc ?_
  funext l a
  match l, a with
  | 0, (t, s) => exact congrFun (congrFun (congrFun (congrFun (congrFun (congrFun (congrFun (congrFun (congrFun (congrFun (congrFun
      (congrFun (congrFun (congrFun (congrFun (congrFun (congrFun kernel_same _) _) _) _) _) _) _) _) _) _) _) _) _) _) _) _) _

/-- The programs' definitions are one. -/
theorem defs_same : Cert.Mla.defs (F := Bits) = Cert.MlaIdeal.defs (F := Bits) :=
  congrArg (Pipeline.defs (Cert.MlaIdeal.pcfgs (F := Bits))) defs₀_same

set_option maxHeartbeats 1000000 in
/-- The entry functions are one. -/
theorem main_same : Cert.Mla.main (F := Bits) = Cert.MlaIdeal.main (F := Bits) := rfl

/-- A run of equal programs. -/
theorem run_same {n : Nat} {t : Topo} {sg : RefSig} {W : EltTy → Type} {L : Labels} {d d' : Defs n t sg W L}
    {p p' : Dev n → Prog (TpuEff n t sg W L .tc) PUnit} (hd : d = d') (hp : p = p') {s Q}
    (h : θ_run d' (onTc p') s Q) : θ_run d (onTc p) s Q := by
  subst hd; subst hp; exact h

end Same

theorem frame_Mla : Cert.quiescent_Mla (hMla := Cert.Mla.Gen.facts) := fun m ρ _ =>
  run_same defs_same main_same
    ((θ_run Cert.MlaIdeal.defs _ _).mono (fun _ h => h) (Cert.MlaIdeal.Att.frame_any (F := Bits) m ρ))

theorem frame_MlaIdeal : Cert.quiescent_MlaIdeal (hMlaIdeal := Cert.MlaIdeal.Gen.facts) := fun m ρ _ =>
  Cert.MlaIdeal.Att.frame_any (F := Ideal) m ρ

theorem frame_MlaRefIdeal : Cert.quiescent_MlaRefIdeal (hMlaRefIdeal := Cert.MlaRefIdeal.Gen.facts) := fun m ρ _ =>
  (θ_run Cert.MlaRefIdeal.defs _ _).mono (fun r h => ⟨fun c => (h c).2, sem_eq_zero_of_no_sems (by decide) r.2⟩)
    (Cert.MlaRefIdeal.Value.run (F := Ideal) m ρ)

end Cert.Proof

end
-- ==== Proof.Pay.lean ====
/-
  One row of what the attention kernel keeps, read at an index: the scores of a tile, the masked scores of the last
  tile, and the running maximum, sum and weighted sum after a tile, each as a scalar formula of the row's values.
-/
module

public import proofs.«01_k».proof.Proof.Model
public import Idealize.ShloMosaic.Lib.Pointwise
public import Idealize.ShloMosaic.Lib.WordArith.Masks

@[expose] public section

set_option maxHeartbeats 1000000

noncomputable section

namespace Cert.MlaIdeal.Att

open Idealize.ShloMosaic Idealize.ShloMosaic.TcCoe Idealize.ShloMosaic.WordArith Cert.MlaIdeal Cert.MlaIdeal.Gen

theorem ofBits_ninf : Ideal.ofBits FTy.f32 4286578688#32 = ⊥ := by simp [Ideal.ofBits, Ideal.ieee]

theorem ofBits_one : Ideal.ofBits FTy.f32 1065353216#32 = 1 := by
  simp [Ideal.ofBits, Ideal.ieee]; rw [← EReal.coe_mul]; norm_num

theorem ofBits_zero : Ideal.ofBits FTy.f32 0#32 = 0 := by simp [Ideal.ofBits, Ideal.ieee]

/-- The score of query row `r` against key `k` of the tile. -/
theorem sc_apply (qs : FVec Ideal S2048x384 .bf16) (kv : Vec Ideal S512x384 .bf16) (r : Fin 2048) (k : Fin 512) :
    (sc qs kv (ix3 0 r k) : EReal) = ∑ c : Fin 384, (qs (ix2 r c) * kv (ix2 k c) : EReal) := by
  pointwise [sc, k0_pay2]

/-- The mask of the last tile's first half: key `k` is seen by token `r % 256` when it is not after it. -/
theorem msk (s : FVec Ideal S1x2048x512 .f32) (r : Fin 2048) (k : Fin 256) :
    (k0_pay32 (F := Ideal) s (ix2 r k) : EReal) = if k.val < r.val % 256 + 1 then s (ix3 0 r ⟨k.val, by omega⟩) else ⊥ := by
  have h : (IntOp.cmpi CmpIPredicate.sle (BitVec.ofNat 32 k.val) (IntOp.addi (IntOp.andi (BitVec.ofNat 32 r.val) 255#32) 0#32))
      = if k.val < r.val % 256 + 1 then 1#1 else 0#1 := by
    have hr : (IntOp.andi (BitVec.ofNat 32 r.val) 255#32).toNat = r.val % 256 :=
      (toNat_andi_lowMask _ _ 8 rfl).trans (by rw [BitVec.toNat_ofNat]; omega)
    have h1 : (IntOp.addi (IntOp.andi (BitVec.ofNat 32 r.val) 255#32) 0#32).toNat = r.val % 256 + 0 := by
      show ((IntOp.andi (BitVec.ofNat 32 r.val) 255#32) + 0#32).toNat = _
      rw [BitVec.toNat_add, hr]; norm_num; omega
    have h2 : (BitVec.ofNat 32 k.val).toNat = k.val := by rw [BitVec.toNat_ofNat]; omega
    generalize (IntOp.addi (IntOp.andi (BitVec.ofNat 32 r.val) 255#32) 0#32) = y at h1 ⊢
    have : (BitVec.ofNat 32 k.val).sle y = decide (k.val < r.val % 256 + 1) := by
      rw [BitVec.sle_eq_decide, BitVec.toInt_eq_toNat_of_lt (by omega), BitVec.toInt_eq_toNat_of_lt (by omega), h1, h2]
      exact decide_eq_decide.mpr (by omega)
    show BitVec.ofBool ((BitVec.ofNat 32 k.val).sle y) = _
    rw [this]; split_ifs with hh <;> simp [hh]
  pointwise [k0_pay32]
  rw [h, ofBits_ninf]
  split_ifs <;> rfl

/-- The mask of the whole last tile, where the queries lie in its second half. -/
theorem mskD (s : FVec Ideal S1x2048x512 .f32) (r : Fin 2048) (k : Fin 512) :
    (k0_pay55 (F := Ideal) s (ix2 r k) : EReal) = if k.val < r.val % 256 + 257 then s (ix3 0 r k) else ⊥ := by
  have h : (IntOp.cmpi CmpIPredicate.sle (BitVec.ofNat 32 k.val) (IntOp.addi (IntOp.andi (BitVec.ofNat 32 r.val) 255#32) 256#32))
      = if k.val < r.val % 256 + 257 then 1#1 else 0#1 := by
    have hr : (IntOp.andi (BitVec.ofNat 32 r.val) 255#32).toNat = r.val % 256 :=
      (toNat_andi_lowMask _ _ 8 rfl).trans (by rw [BitVec.toNat_ofNat]; omega)
    have h1 : (IntOp.addi (IntOp.andi (BitVec.ofNat 32 r.val) 255#32) 256#32).toNat = r.val % 256 + 256 := by
      show ((IntOp.andi (BitVec.ofNat 32 r.val) 255#32) + 256#32).toNat = _
      rw [BitVec.toNat_add, hr]; norm_num; omega
    have h2 : (BitVec.ofNat 32 k.val).toNat = k.val := by rw [BitVec.toNat_ofNat]; omega
    generalize (IntOp.addi (IntOp.andi (BitVec.ofNat 32 r.val) 255#32) 256#32) = y at h1 ⊢
    have : (BitVec.ofNat 32 k.val).sle y = decide (k.val < r.val % 256 + 257) := by
      rw [BitVec.sle_eq_decide, BitVec.toInt_eq_toNat_of_lt (by omega), BitVec.toInt_eq_toNat_of_lt (by omega), h1, h2]
      exact decide_eq_decide.mpr (by omega)
    show BitVec.ofBool ((BitVec.ofNat 32 k.val).sle y) = _
    rw [this]; split_ifs with hh <;> simp [hh]
  pointwise [k0_pay55]
  rw [h, ofBits_ninf]
  split_ifs <;> rfl

/-- The running maximum after a tile. -/
def nm (μ : EReal) {w : ℕ} (x : Fin w → EReal) : EReal := max μ (Finset.univ.sup x)

/-- The weight a score `x` takes against the maximum `y`. -/
def e2 (x y : EReal) : EReal := Ideal.exp2 (x - y)

theorem e2_eq (x y : Ideal .f32) : (FloatOps.exp2 (x - y) : Ideal .f32) = e2 x y := rfl

theorem sup_fold {w : ℕ} (f : Fin w → EReal) : Finset.univ.sup f = Finset.fold max ⊥ f Finset.univ := rfl

section

variable (s : FVec Ideal S1x2048x512 .f32) (m l : FVec Ideal S2048x128 .f32) (a : FVec Ideal S2048x256 .f32)
  (kv : Vec Ideal S512x384 .bf16) (r : Fin 2048) (μ ν : EReal)

theorem mU (hm : ∀ x, m (ix2 r x) = μ) (x) : (k0_pay4 (F := Ideal) s m (ix2 r x) : EReal) = nm μ (fun k : Fin 512 => s (ix3 0 r k)) := by
  pointwise [k0_pay4, k0_pay3, hm]
  rw [ofBits_ninf, nm, sup_fold]

theorem pU (hm : ∀ x, m (ix2 r x) = μ) (k : Fin 512) :
    (k0_pay6 (F := Ideal) s m (ix2 r k) : EReal) = e2 (s (ix3 0 r k)) (nm μ (fun k : Fin 512 => s (ix3 0 r k))) := by
  pointwise [k0_pay6, k0_pay3, mU s m r μ hm]
  simp only [dite_eq_ite, ite_self]
  exact e2_eq _ _

theorem lU (hm : ∀ x, m (ix2 r x) = μ) (hl : ∀ x, l (ix2 r x) = ν) (x) : (k0_pay7 (F := Ideal) s m l (ix2 r x) : EReal) =
    e2 μ (nm μ (fun k : Fin 512 => s (ix3 0 r k))) * ν + ∑ k : Fin 512, e2 (s (ix3 0 r k)) (nm μ (fun k : Fin 512 => s (ix3 0 r k))) := by
  pointwise [k0_pay7, k0_pay5, hm, hl]
  simp only [mU s m r μ hm, pU s m r μ hm]
  exact congrArg₂ (fun a b : EReal => a * ν + b) (e2_eq _ _) rfl

theorem aU (hm : ∀ x, m (ix2 r x) = μ) (d : Fin 256) : (k0_pay10 (F := Ideal) (k0_pay8 (F := Ideal) s m a) (k0_pay9 (F := Ideal) s m) kv (ix2 r d) : EReal) =
    e2 μ (nm μ (fun k : Fin 512 => s (ix3 0 r k))) * a (ix2 r d) + ∑ k : Fin 512, e2 (s (ix3 0 r k)) (nm μ (fun k : Fin 512 => s (ix3 0 r k))) * kv (ix2 ⟨k.val, by omega⟩ ⟨d.val, by omega⟩) := by
  pointwise [k0_pay10, k0_pay9, k0_pay8, k0_pay5, hm]
  simp only [mU s m r μ hm, pU s m r μ hm, dite_eq_ite, ite_self]
  exact congrArg₂ (fun x y : EReal => x * a (ix2 r d) + y) (e2_eq _ _) rfl

theorem mH (hm : ∀ x, m (ix2 r x) = μ) (x) : (k0_pay33 (F := Ideal) s m (ix2 r x) : EReal) = nm μ (fun k : Fin 256 => k0_pay32 (F := Ideal) s (ix2 r k)) := by
  pointwise [k0_pay33, hm]
  rw [ofBits_ninf, nm, sup_fold]

theorem pH (hm : ∀ x, m (ix2 r x) = μ) (k : Fin 256) :
    (k0_pay35 (F := Ideal) s m (ix2 r k) : EReal) = e2 (k0_pay32 (F := Ideal) s (ix2 r k)) (nm μ (fun k : Fin 256 => k0_pay32 (F := Ideal) s (ix2 r k))) := by
  pointwise [k0_pay35, mH s m r μ hm]
  simp only [dite_eq_ite, ite_self]
  exact e2_eq _ _

theorem lH (hm : ∀ x, m (ix2 r x) = μ) (hl : ∀ x, l (ix2 r x) = ν) (x) : (k0_pay36 (F := Ideal) s m l (ix2 r x) : EReal) =
    e2 μ (nm μ (fun k : Fin 256 => k0_pay32 (F := Ideal) s (ix2 r k))) * ν + ∑ k : Fin 256, e2 (k0_pay32 (F := Ideal) s (ix2 r k)) (nm μ (fun k : Fin 256 => k0_pay32 (F := Ideal) s (ix2 r k))) := by
  pointwise [k0_pay36, k0_pay34, hm, hl]
  simp only [mH s m r μ hm, pH s m r μ hm]
  exact congrArg₂ (fun a b : EReal => a * ν + b) (e2_eq _ _) rfl

theorem aH (hm : ∀ x, m (ix2 r x) = μ) (d : Fin 256) : (k0_pay91 (F := Ideal) (k0_pay37 (F := Ideal) s m a) (k0_pay38 (F := Ideal) s m) (k0_pay39 kv) (ix2 r d) : EReal) =
    e2 μ (nm μ (fun k : Fin 256 => k0_pay32 (F := Ideal) s (ix2 r k))) * a (ix2 r d) + ∑ k : Fin 256, e2 (k0_pay32 (F := Ideal) s (ix2 r k)) (nm μ (fun k : Fin 256 => k0_pay32 (F := Ideal) s (ix2 r k))) * kv (ix2 ⟨k.val, by omega⟩ ⟨d.val, by omega⟩) := by
  pointwise [k0_pay91, k0_pay38, k0_pay39, k0_pay37, k0_pay34, hm]
  simp only [mH s m r μ hm, pH s m r μ hm, dite_eq_ite, ite_self]
  exact congrArg₂ (fun x y : EReal => x * a (ix2 r d) + y) (e2_eq _ _) rfl

theorem mD (hm : ∀ x, m (ix2 r x) = μ) (x) : (k0_pay56 (F := Ideal) s m (ix2 r x) : EReal) = nm μ (fun k : Fin 512 => k0_pay55 (F := Ideal) s (ix2 r k)) := by
  pointwise [k0_pay56, hm]
  rw [ofBits_ninf, nm, sup_fold]

theorem pD (hm : ∀ x, m (ix2 r x) = μ) (k : Fin 512) :
    (k0_pay58 (F := Ideal) s m (ix2 r k) : EReal) = e2 (k0_pay55 (F := Ideal) s (ix2 r k)) (nm μ (fun k : Fin 512 => k0_pay55 (F := Ideal) s (ix2 r k))) := by
  pointwise [k0_pay58, mD s m r μ hm]
  simp only [dite_eq_ite, ite_self]
  exact e2_eq _ _

theorem lD (hm : ∀ x, m (ix2 r x) = μ) (hl : ∀ x, l (ix2 r x) = ν) (x) : (k0_pay59 (F := Ideal) s m l (ix2 r x) : EReal) =
    e2 μ (nm μ (fun k : Fin 512 => k0_pay55 (F := Ideal) s (ix2 r k))) * ν + ∑ k : Fin 512, e2 (k0_pay55 (F := Ideal) s (ix2 r k)) (nm μ (fun k : Fin 512 => k0_pay55 (F := Ideal) s (ix2 r k))) := by
  pointwise [k0_pay59, k0_pay57, hm, hl]
  simp only [mD s m r μ hm, pD s m r μ hm]
  exact congrArg₂ (fun a b : EReal => a * ν + b) (e2_eq _ _) rfl

theorem aD (hm : ∀ x, m (ix2 r x) = μ) (d : Fin 256) : (k0_pay96 (F := Ideal) (k0_pay60 (F := Ideal) s m a) (k0_pay61 (F := Ideal) s m) (k0_pay62 kv) (constant S2048x256 .f32 0x00000000#32) (ix2 r d) : EReal) =
    e2 μ (nm μ (fun k : Fin 512 => k0_pay55 (F := Ideal) s (ix2 r k))) * a (ix2 r d) + ∑ k : Fin 512, e2 (k0_pay55 (F := Ideal) s (ix2 r k)) (nm μ (fun k : Fin 512 => k0_pay55 (F := Ideal) s (ix2 r k))) * kv (ix2 ⟨k.val, by omega⟩ ⟨d.val, by omega⟩) := by
  pointwise [k0_pay96, k0_pay61, k0_pay62, k0_pay60, k0_pay57, hm]
  simp only [mD s m r μ hm, pD s m r μ hm, dite_eq_ite, ite_self]
  exact congrArg₂ (fun x y : EReal => x * a (ix2 r d) + y) (e2_eq _ _) rfl

end

end Cert.MlaIdeal.Att

end
-- ==== Proof.Online.lean ====
/-
  The online softmax over the real numbers: a running maximum, a running sum of weights and a running weighted sum, taken
  from the first `n` keys to the first `n + c`, whatever real number stands in the maximum's place.
-/
module

public import Idealize.ShloMosaic.PureOps.Ideal

@[expose] public section

noncomputable section

namespace Cert.Online

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Two to the power of a difference of reals. -/
theorem exp2_sub (x y : ℝ) : Ideal.exp2 ((x : EReal) - (y : EReal)) = (((2 : ℝ) ^ (x - y) : ℝ) : EReal) := by
  rw [← EReal.coe_sub, Ideal.exp2_coe]; rfl

theorem exp2_bot_sub (y : ℝ) : Ideal.exp2 ((⊥ : EReal) - (y : EReal)) = 0 := by
  rw [EReal.bot_sub, Ideal.exp2_bot]

/-- A greatest element over at least one real, of reals and minus infinities, is a real. -/
theorem sup_real {ι : Type*} (s : Finset ι) (x : ι → EReal) (ht : ∀ i ∈ s, x i ≠ ⊤) (i₀ : ι) (h₀ : i₀ ∈ s) (hb : x i₀ ≠ ⊥) :
    ∃ M : ℝ, s.sup x = M := by
  have h1 : s.sup x ≠ ⊥ := fun h => hb (le_bot_iff.mp (h ▸ Finset.le_sup h₀))
  have h2 : s.sup x ≠ ⊤ := by
    refine (Finset.sup_lt_iff (by exact bot_lt_top)).mpr (fun i hi => lt_top_iff_ne_top.mpr (ht i hi)) |>.ne
  exact ⟨(s.sup x).toReal, (EReal.coe_toReal h2 h1).symm⟩

/-- What the running values say after the first `n` keys: for some real `M`, which is the running maximum unless no key
    has come, the sums of the weights `2 ^ (score - M)`. -/
def Inv (S : ℕ → ℝ) (V : ℕ → ℕ → ℝ) (n : ℕ) (m l : EReal) (a : ℕ → EReal) (D : ℕ) : Prop :=
  ∃ M : ℝ, (m = M ∨ (m = ⊥ ∧ n = 0)) ∧ l = ((∑ k ∈ Finset.range n, (2 : ℝ) ^ (S k - M) : ℝ) : EReal)
    ∧ ∀ d < D, a d = ((∑ k ∈ Finset.range n, (2 : ℝ) ^ (S k - M) * V k d : ℝ) : EReal)

theorem inv_zero (S : ℕ → ℝ) (V : ℕ → ℕ → ℝ) (a : ℕ → EReal) (D : ℕ) (ha : ∀ d < D, a d = 0) : Inv S V 0 ⊥ 0 a D :=
  ⟨0, .inr ⟨rfl, rfl⟩, by simp, fun d hd => by simp [ha d hd]⟩

/-- A sum over a tile of `w` keys of which the first `c` count. -/
theorem sum_tile (w c n : ℕ) (hc : c ≤ w) (f : ℕ → ℝ) :
    (∑ i : Fin w, if i.val < c then f (n + i.val) else 0) = ∑ i ∈ Finset.range c, f (n + i) := by
  rw [Fin.sum_univ_eq_sum_range (fun i => if i < c then f (n + i) else 0) w, ← Finset.sum_filter]
  congr 1
  ext i; simp; omega

/-- One tile of `w` keys, of which the first `c` are seen, taken in. -/
theorem inv_step (S : ℕ → ℝ) (V : ℕ → ℕ → ℝ) (n : ℕ) (m l : EReal) (a : ℕ → EReal) (D : ℕ) (h : Inv S V n m l a D)
    (w c : ℕ) (h1 : 0 < c) (hc : c ≤ w) (x : Fin w → EReal) (hx : ∀ i, x i = if i.val < c then (S (n + i.val) : EReal) else ⊥)
    (m' l' : EReal) (a' : ℕ → EReal) (hm : m' = max m (Finset.univ.sup x))
    (hl : l' = Ideal.exp2 (m - m') * l + ∑ i, Ideal.exp2 (x i - m'))
    (ha : ∀ d < D, a' d = Ideal.exp2 (m - m') * a d + ∑ i, Ideal.exp2 (x i - m') * (V (n + i.val) d : EReal)) :
    Inv S V (n + c) m' l' a' D := by
  obtain ⟨M, hM, hL, hA⟩ := h
  obtain ⟨X, hX⟩ := sup_real Finset.univ x (fun i _ => by rw [hx]; split <;> simp) ⟨0, by omega⟩ (Finset.mem_univ _)
    (by rw [hx]; simp [h1])
  have hm' : ∃ M' : ℝ, m' = M' := by
    rcases hM with hM | ⟨hM, -⟩
    · exact ⟨max M X, by rw [hm, hX, hM]; exact (EReal.coe_strictMono.monotone.map_max).symm⟩
    · exact ⟨X, by rw [hm, hX, hM, max_eq_right bot_le]⟩
  obtain ⟨M', hm'⟩ := hm'
  have hp : ∀ i, Ideal.exp2 (x i - m') = (((if i.val < c then (2 : ℝ) ^ (S (n + i.val) - M') else 0) : ℝ) : EReal) := fun i => by
    rw [hx, hm']; split
    · rw [exp2_sub]
    · rw [exp2_bot_sub]; rfl
  -- the old sums, scaled to the new maximum
  have hs : ∀ f : ℕ → ℝ, Ideal.exp2 (m - m') * ((∑ k ∈ Finset.range n, (2 : ℝ) ^ (S k - M) * f k : ℝ) : EReal)
      = ((∑ k ∈ Finset.range n, (2 : ℝ) ^ (S k - M') * f k : ℝ) : EReal) := fun f => by
    rcases hM with hM | ⟨hM, h0⟩
    · rw [hM, hm', exp2_sub, ← EReal.coe_mul, Finset.mul_sum]
      congr 1
      refine Finset.sum_congr rfl fun k _ => ?_
      rw [← mul_assoc, ← Real.rpow_add (by norm_num)]
      congr 2; ring
    · rw [h0]; simp
  refine ⟨M', .inl hm', ?_, fun d hd => ?_⟩
  · have := hs (fun _ => 1)
    simp only [mul_one] at this
    rw [hl, hL, this, Finset.sum_congr rfl (fun i _ => hp i), ← coe_sum, sum_tile w c n hc (fun k => (2 : ℝ) ^ (S k - M')),
      ← EReal.coe_add, Finset.sum_range_add]
  · have hv : ∀ i : Fin w, Ideal.exp2 (x i - m') * (V (n + i.val) d : EReal)
        = (((if i.val < c then (2 : ℝ) ^ (S (n + i.val) - M') * V (n + i.val) d else 0) : ℝ) : EReal) := fun i => by
      rw [hp i, ← EReal.coe_mul, ite_mul, zero_mul]
    rw [ha d hd, hA d hd, hs (fun k => V k d), Finset.sum_congr rfl (fun i _ => hv i), ← coe_sum, sum_tile w c n hc (fun k => (2 : ℝ) ^ (S k - M') * V k d), ← EReal.coe_add, Finset.sum_range_add]

/-- The average of the keys' values under the weights `exp score` of the first `n` keys. -/
def avg (s : ℕ → ℝ) (v : ℕ → ℝ) (n : ℕ) : ℝ :=
  (∑ k ∈ Finset.range n, Real.exp (s k) * v k) / ∑ k ∈ Finset.range n, Real.exp (s k)

theorem sum_exp_pos (s : ℕ → ℝ) (n : ℕ) (hn : 0 < n) : 0 < ∑ k ∈ Finset.range n, Real.exp (s k) :=
  Finset.sum_pos (fun _ _ => Real.exp_pos _) ⟨0, Finset.mem_range.mpr hn⟩

/-- The running weighted sum over the running sum is the average, the scores being those of base two. -/
theorem inv_avg (s S : ℕ → ℝ) (hS : ∀ k, S k * Real.log 2 = s k) (V : ℕ → ℕ → ℝ) (n : ℕ) (hn : 0 < n) (m l : EReal) (a : ℕ → EReal) (D : ℕ)
    (h : Inv S V n m l a D) (d : ℕ) (hd : d < D) : a d * Ideal.div 1 l = (avg s (fun k => V k d) n : EReal) := by
  obtain ⟨M, -, hL, hA⟩ := h
  have hw : ∀ k, (2 : ℝ) ^ (S k - M) = Real.exp (s k) * (2 : ℝ) ^ (-M) := fun k => by
    rw [sub_eq_add_neg, Real.rpow_add (by norm_num), ← hS, mul_comm (S k), ← Real.rpow_def_of_pos (by norm_num)]
  have h2 : (2 : ℝ) ^ (-M) ≠ 0 := (Real.rpow_pos_of_pos (by norm_num) _).ne'
  have hl : l = (((∑ k ∈ Finset.range n, Real.exp (s k)) * (2 : ℝ) ^ (-M) : ℝ) : EReal) := by
    rw [hL, Finset.sum_mul]; congr 1; exact Finset.sum_congr rfl fun k _ => hw k
  have ha : a d = (((∑ k ∈ Finset.range n, Real.exp (s k) * V k d) * (2 : ℝ) ^ (-M) : ℝ) : EReal) := by
    rw [hA d hd, Finset.sum_mul]; congr 1; exact Finset.sum_congr rfl fun k _ => by rw [hw k]; ring
  have hp := (sum_exp_pos s n hn).ne'
  rw [hl, ha, Ideal.div_coe (mul_ne_zero hp h2), one_mul, ← EReal.coe_mul, avg]
  congr 1
  field_simp

/-- The masked softmax of the scores, with any real in the maximum's place, as an average. -/
theorem softmax_avg (s : ℕ → ℝ) (v : ℕ → ℝ) (N n : ℕ) (hn : 0 < n) (hN : n ≤ N) (x : Fin N → EReal)
    (hx : ∀ i, x i = if i.val < n then (s i.val : EReal) else ⊥) (m : EReal) (hm : m = Finset.univ.sup x) :
    (∑ i, Ideal.div (Ideal.exp (x i - m)) (∑ j, Ideal.exp (x j - m)) * (v i.val : EReal)) = (avg s v n : EReal) := by
  obtain ⟨M, hM⟩ := sup_real Finset.univ x (fun i _ => by rw [hx]; split <;> simp) ⟨0, by omega⟩ (Finset.mem_univ _)
    (by rw [hx]; simp [hn])
  have he : ∀ i, Ideal.exp (x i - m) = (((if i.val < n then Real.exp (s i.val) * Real.exp (-M) else 0) : ℝ) : EReal) := fun i => by
    rw [hx, hm, hM]; split
    · rw [← EReal.coe_sub, Ideal.exp_coe, sub_eq_add_neg, Real.exp_add]
    · rw [EReal.bot_sub, Ideal.exp_bot]; rfl
  have hsum : (∑ j, Ideal.exp (x j - m)) = (((∑ k ∈ Finset.range n, Real.exp (s k)) * Real.exp (-M) : ℝ) : EReal) := by
    rw [Finset.sum_congr rfl (fun i _ => he i), ← coe_sum, Finset.sum_mul]
    congr 1
    have := sum_tile N n 0 hN (fun k => Real.exp (s k) * Real.exp (-M))
    simpa using this
  have hp := (sum_exp_pos s n hn).ne'
  have hE := (Real.exp_pos (-M)).ne'
  have hv : ∀ i : Fin N, Ideal.div (Ideal.exp (x i - m)) (((∑ k ∈ Finset.range n, Real.exp (s k)) * Real.exp (-M) : ℝ) : EReal) * (v i.val : EReal)
      = (((if i.val < n then Real.exp (s i.val) * Real.exp (-M) * (1 / ((∑ k ∈ Finset.range n, Real.exp (s k)) * Real.exp (-M))) * v i.val else 0) : ℝ) : EReal) :=
    fun i => by rw [he i, Ideal.div_coe (mul_ne_zero hp hE), ← EReal.coe_mul, ← EReal.coe_mul, ite_mul, ite_mul, zero_mul, zero_mul]
  rw [hsum, Finset.sum_congr rfl (fun i _ => hv i), ← coe_sum]
  congr 1
  have := sum_tile N n 0 hN (fun k => Real.exp (s k) * Real.exp (-M) * (1 / ((∑ k ∈ Finset.range n, Real.exp (s k)) * Real.exp (-M))) * v k)
  simp only [Nat.zero_add] at this
  rw [this, avg, Finset.sum_div]
  refine Finset.sum_congr rfl fun k _ => ?_
  field_simp

end Cert.Online

end
-- ==== Proof.Spec.lean ====
/-
  What both programs compute, over the reals: the score of a query against a key, and the average of the keys under the
  softmax weights of the scores, projected by the query's head.
-/
module

public import proofs.«01_k».proof.Proof.Online
public import Idealize.ShloMosaic.Lib.Pointwise

@[expose] public section

noncomputable section

namespace Cert.Spec

open Idealize.ShloMosaic

abbrev SQ : Shape := ⟨4, ![2, 8192, 8, 256]⟩
abbrev SR : Shape := ⟨4, ![2, 8192, 8, 32]⟩
abbrev SK : Shape := ⟨3, ![2, 8192, 288]⟩
abbrev SW : Shape := ⟨3, ![256, 8, 64]⟩

/-- A position by its number. -/
def pos (k : ℕ) : Fin 8192 := ⟨k % 8192, Nat.mod_lt _ (by decide)⟩

theorem pos_val (k : Fin 8192) : pos k.val = k := Fin.ext (Nat.mod_eq_of_lt k.isLt)

/-- Every entry of an array is a real number. -/
def AllReal (s : Shape) (x : s.Idx → EReal) : Prop := ∀ i, x i = ((x i).toReal : EReal)

/-- The products of a query with a key, summed. -/
def dotQ (q : SQ.Idx → EReal) (qr : SR.Idx → EReal) (kv : SK.Idx → EReal) (b : Fin 2) (h : Fin 8) (i : Fin 8192) (k : ℕ) : ℝ :=
  (∑ x : Fin 256, (kv (ix3 b (pos k) ⟨x.val, by omega⟩)).toReal * (q (ix4 b i h x)).toReal)
    + ∑ x : Fin 32, (kv (ix3 b (pos k) ⟨256 + x.val, by omega⟩)).toReal * (qr (ix4 b i h x)).toReal

/-- The score of query `i` of head `h` against key `k`. -/
def score (q : SQ.Idx → EReal) (qr : SR.Idx → EReal) (kv : SK.Idx → EReal) (b : Fin 2) (h : Fin 8) (i : Fin 8192) (k : ℕ) : ℝ :=
  dotQ q qr kv b h i k / √96

/-- Lane `d` of key `k`. -/
def key (kv : SK.Idx → EReal) (b : Fin 2) (k d : ℕ) : ℝ :=
  (kv (ix3 b (pos k) ⟨d % 288, Nat.mod_lt _ (by decide)⟩)).toReal

/-- The result at batch `b`, position `i`, column `n`. -/
def outv (q : SQ.Idx → EReal) (qr : SR.Idx → EReal) (kv : SK.Idx → EReal) (w : SW.Idx → EReal) (b : Fin 2) (i : Fin 8192) (n : Fin 512) : EReal :=
  ∑ r : Fin 256, w (ix3 r ⟨n.val / 64, by omega⟩ ⟨n.val % 64, Nat.mod_lt _ (by decide)⟩)
    * ((Online.avg (score q qr kv b ⟨n.val / 64, by omega⟩ i) (fun k => key kv b k r.val) (i.val + 1) : ℝ) : EReal)

theorem ofBits_96 : Ideal.ofBits FTy.f32 1119879168#32 = ((96 : ℝ) : EReal) := by
  simp [Ideal.ofBits, Ideal.ieee]; rw [← EReal.coe_mul]; norm_num

theorem sqrt_96 : Ideal.sqrt (Ideal.ofBits FTy.f32 1119879168#32) = ((√96 : ℝ) : EReal) := by
  rw [ofBits_96, Ideal.sqrt_coe, if_neg (by norm_num)]

theorem sqrt96_ne : (√96 : ℝ) ≠ 0 := (Real.sqrt_pos.mpr (by norm_num)).ne'

end Cert.Spec

end
-- ==== Proof.Host.lean ====
/-
  The arrays the kernel's windows cut, read at an index at the exact reals: the packed and scaled queries, the padded
  keys, and the heads' projections padded with zeros outside a head's own columns.
-/
module

public import proofs.«01_k».proof.Proof.Run
public import proofs.«01_k».proof.Proof.Pay
public import proofs.«01_k».proof.Proof.Spec
public import Idealize.ShloMosaic.Lib.StableHlo.ReadAt

@[expose] public section

set_option maxHeartbeats 1000000

noncomputable section

namespace Cert.MlaIdeal.Att

open Idealize.ShloMosaic Idealize.ShloMosaic.TcCoe Cert.MlaIdeal Cert.MlaIdeal.Gen

variable (m : (ℓ : Loc nD τ sig) → Buf (Elt Ideal) ℓ) (c : Dev nD)

/-- The four arrays the program is given. -/
abbrev aq : FVec Ideal S2x8192x8x256 .f32 := m ((c.tc : Thread nD τ).loc main_arg0)
abbrev aqr : FVec Ideal S2x8192x8x32 .f32 := m ((c.tc : Thread nD τ).loc main_arg1)
abbrev akv : FVec Ideal S2x8192x288 .f32 := m ((c.tc : Thread nD τ).loc main_arg2)
abbrev aw : FVec Ideal S256x8x64 .f32 := m ((c.tc : Thread nD τ).loc main_arg3)

/-- The scale the queries are packed with, at base two. -/
def scale : ℝ := 1 / (√96 * Real.log 2)

theorem ofBits_two : Ideal.ofBits FTy.f32 1073741824#32 = ((2 : ℝ) : EReal) := by
  simp [Ideal.ofBits, Ideal.ieee]; rw [← EReal.coe_mul]; norm_num

theorem log2_ne : Real.log 2 ≠ 0 := (Real.log_pos (by norm_num)).ne'

theorem scale_eq : Ideal.div (Ideal.ofBits FTy.f32 1065353216#32)
    (Ideal.sqrt (Ideal.ofBits FTy.f32 1119879168#32) * Ideal.log (Ideal.ofBits FTy.f32 1073741824#32)) = ((scale : ℝ) : EReal) := by
  rw [ofBits_one, Spec.sqrt_96, ofBits_two, Ideal.log_coe, if_neg (by norm_num), ← EReal.coe_mul,
    Ideal.div_coe (mul_ne_zero Spec.sqrt96_ne log2_ne), one_mul]
  rfl

theorem V15 (i : Fin 16384) (n : Fin 3072) : (V m c main_v15 (ix2 i n) : EReal) =
    if h : n.val % 384 < 256 then aq m c (ix4 ⟨i.val / 8192, by omega⟩ ⟨i.val % 8192, Nat.mod_lt _ (by decide)⟩ ⟨n.val / 384, by omega⟩ ⟨n.val % 384, h⟩) * ((scale : ℝ) : EReal)
    else if h : n.val % 384 - 256 < 32 then
      aqr m c (ix4 ⟨i.val / 8192, by omega⟩ ⟨i.val % 8192, Nat.mod_lt _ (by decide)⟩ ⟨n.val / 384, by omega⟩ ⟨n.val % 384 - 256, h⟩) * ((scale : ℝ) : EReal)
    else 0 := by
  have hz : (Ideal.ofBits FTy.f32 0#32 : EReal) = 0 := ofBits_zero
  rw [← scale_eq]
  unfold V
  after_reads_at
  by_cases h1 : n.val % 384 < 256
  · rw [dif_pos h1, dif_pos h1]
    after_reads_at
  · rw [dif_neg h1, dif_neg h1]
    by_cases h2 : n.val % 384 - 256 < 32
    · rw [dif_pos h2, dif_pos h2]
      after_reads_at
    · rw [dif_neg h2, dif_neg h2]
      after_reads_at

theorem V18 (i : Fin 16384) (n : Fin 384) : (V m c main_v18 (ix2 i n) : EReal) =
    if h : n.val < 288 then akv m c (ix3 ⟨i.val / 8192, by omega⟩ ⟨i.val % 8192, Nat.mod_lt _ (by decide)⟩ ⟨n.val, h⟩) else 0 := by
  have hz : (FloatOps.sitofp (F := Ideal) FTy.f32 (0#32) : EReal) = 0 := by
    show (((0#32 : BitVec 32).toInt : ℝ) : EReal) = 0
    simp
  unfold V
  after_reads_at
  rw [hz]

/-- The head a column of the result belongs to, as the program's words compute it. -/
def hd (n : ℕ) : BitVec 32 :=
  Scalar.select
          (IntOp.andi
            (IntOp.cmpi CmpIPredicate.ne
              (if BitVec.ofNat 32 n = 0 then (0 : BitVec 32) else if (BitVec.ofNat 32 n).msb = true then -1 else 1)
              (if id (constantI S_ 32 64#32) ix0 = 0 then 0
              else if BitVec.msb (id (constantI S_ 32 64#32) ix0) = true then -1 else 1))
            (IntOp.cmpi CmpIPredicate.ne
              (IntOp.remsi ArithUnit.host (BitVec.ofNat 32 n) (id (constantI S_ 32 64#32) ix0)) 0#32))
          (IntOp.subi (IntOp.divsi ArithUnit.host (BitVec.ofNat 32 n) (id (constantI S_ 32 64#32) ix0)) 1#32)
          (IntOp.divsi ArithUnit.host (BitVec.ofNat 32 n) (id (constantI S_ 32 64#32) ix0))

theorem hd_eq : ∀ n : Fin 512, hd n.val = BitVec.ofNat 32 (n.val / 64) := by decide +kernel

theorem V32 (h : Fin 8) (r : Fin 256) (n : Fin 512) : (V m c main_v32 (ix3 h r n) : EReal) =
    if n.val / 64 = h.val then aw m c (ix3 r h ⟨n.val % 64, Nat.mod_lt _ (by decide)⟩) else 0 := by
  have hc : IntOp.cmpi CmpIPredicate.eq (hd n.val) (BitVec.ofNat 32 h.val) = if n.val / 64 = h.val then 1#1 else 0#1 := by
    rw [hd_eq]
    have : ∀ (x : Fin 8) (y : Fin 8), IntOp.cmpi CmpIPredicate.eq (BitVec.ofNat 32 x.val) (BitVec.ofNat 32 y.val) = if x.val = y.val then 1#1 else 0#1 := by
      decide +kernel
    exact this ⟨n.val / 64, by omega⟩ h
  have hz : (id (constant (F := Ideal) S_ FTy.f32 0#32) ix0 : EReal) = 0 := ofBits_zero
  unfold V
  after_reads_at
  refine (congrArg₂ (fun x y => Scalar.select x _ y) hc hz).trans ?_
  split_ifs <;> rfl

end Cert.MlaIdeal.Att

end
-- ==== Proof.Row.lean ====
/-
  A row of what the attention kernel keeps, tile after tile: it is the online softmax of the keys seen so far.
-/
module

public import proofs.«01_k».proof.Proof.Pay
public import proofs.«01_k».proof.Proof.Online

@[expose] public section

set_option maxHeartbeats 1000000

noncomputable section

namespace Cert.MlaIdeal.Att

open Idealize.ShloMosaic Idealize.ShloMosaic.TcCoe Cert.MlaIdeal Cert.MlaIdeal.Gen

/-- The averaged part of a key lies inside its padded row. -/
theorem lt_key (d : Fin 256) : d.val < 384 := by omega

/-- Row `r` of a state holds the online softmax of the first `n` keys, of scores `S` and lanes `V`. -/
def Row (S : ℕ → ℝ) (V : ℕ → ℕ → ℝ) (r : Fin 2048) (n : ℕ) (z : St Ideal) : Prop :=
  ∃ μ ν : EReal, (∀ x, (z.m (ix2 r x) : EReal) = μ) ∧ (∀ x, (z.l (ix2 r x) : EReal) = ν)
    ∧ Online.Inv S V n μ ν (fun d => z.a (ix2 r ⟨d % 256, Nat.mod_lt _ (by decide)⟩)) 256

theorem row_init (S : ℕ → ℝ) (V : ℕ → ℕ → ℝ) (r : Fin 2048) : Row S V r 0 init := by
  refine ⟨⊥, 0, fun x => ?_, fun x => ?_, Online.inv_zero S V _ 256 fun d _ => ?_⟩
  · show (k0_pay79 (F := Ideal) (ix2 r x) : EReal) = ⊥
    pointwise [k0_pay79]
    exact ofBits_ninf
  · show (k0_pay80 (F := Ideal) (ix2 r x) : EReal) = 0
    pointwise [k0_pay80]
    try exact ofBits_zero
  · show (k0_pay81 (F := Ideal) (ix2 r ⟨d % 256, Nat.mod_lt _ (by decide)⟩) : EReal) = 0
    pointwise [k0_pay81]
    try exact ofBits_zero

theorem pay11_apply (x : FVec Ideal S2048x128 .f32) (r : Fin 2048) (l : Fin 128) : (k0_pay11 x (ix2 r l) : EReal) = x (ix2 r l) := by
  pointwise [k0_pay11]

theorem pay92_apply (x : FVec Ideal S2048x128 .f32) (r : Fin 2048) (l : Fin 128) : (k0_pay92 x (ix2 r l) : EReal) = x (ix2 r l) := by
  pointwise [k0_pay92]

theorem pay97_apply (x : FVec Ideal S2048x128 .f32) (r : Fin 2048) (l : Fin 128) : (k0_pay97 x (ix2 r l) : EReal) = x (ix2 r l) := by
  pointwise [k0_pay97]

section

variable (S : ℕ → ℝ) (V : ℕ → ℕ → ℝ) (r : Fin 2048) (n : ℕ) (z : St Ideal) (s : FVec Ideal S1x2048x512 .f32) (kv : Vec Ideal S512x384 .bf16)
  (hz : Row S V r n z) (hs : ∀ k : Fin 512, (s (ix3 0 r k) : EReal) = ((S (n + k.val) : ℝ) : EReal))
  (hv : ∀ (k : Fin 512) (d : Fin 256), (kv (ix2 k ⟨d.val, lt_key d⟩) : EReal) = ((V (n + k.val) d.val : ℝ) : EReal))

include hz hs hv

/-- An unmasked tile. -/
theorem row_upd : Row S V r (n + 512) (upd s kv z) := by
  obtain ⟨μ, ν, hm, hl, hi⟩ := hz
  refine ⟨nm μ (fun k : Fin 512 => (s (ix3 0 r k) : EReal)), _, fun x => (pay11_apply _ r x).trans (mU s z.m r μ hm x), fun x => lU s z.m z.l r μ ν hm hl x, ?_⟩
  refine Online.inv_step S V n μ ν _ 256 hi 512 (512) (by omega) (by omega) (fun k : Fin 512 => (s (ix3 0 r k) : EReal)) (fun k => ?_) _ _ _ rfl rfl fun d hd => ?_
  · rw [if_pos k.isLt]; exact hs k
  · refine (aU s z.m z.a kv r μ hm ⟨d % 256, Nat.mod_lt _ (by decide)⟩).trans ?_
    refine congrArg₂ (fun x y : EReal => x + y) rfl (Finset.sum_congr rfl fun k _ => ?_)
    refine congrArg₂ (fun x y : EReal => x * y) rfl ((hv ⟨k.val, by omega⟩ ⟨d % 256, Nat.mod_lt _ (by decide)⟩).trans ?_)
    show ((V (n + k.val) (d % 256) : ℝ) : EReal) = _
    rw [Nat.mod_eq_of_lt hd]

/-- The last tile, its first half masked. -/
theorem row_updH : Row S V r (n + (r.val % 256 + 1)) (updH s kv z) := by
  obtain ⟨μ, ν, hm, hl, hi⟩ := hz
  refine ⟨nm μ (fun k : Fin 256 => (k0_pay32 (F := Ideal) s (ix2 r k) : EReal)), _, fun x => (pay92_apply _ r x).trans (mH s z.m r μ hm x), fun x => lH s z.m z.l r μ ν hm hl x, ?_⟩
  refine Online.inv_step S V n μ ν _ 256 hi 256 ((r.val % 256 + 1)) (by omega) (by omega) (fun k : Fin 256 => (k0_pay32 (F := Ideal) s (ix2 r k) : EReal)) (fun k => ?_) _ _ _ rfl rfl fun d hd => ?_
  · rw [msk]; split_ifs; · exact hs ⟨k.val, by omega⟩
    · rfl
  · refine (aH s z.m z.a kv r μ hm ⟨d % 256, Nat.mod_lt _ (by decide)⟩).trans ?_
    refine congrArg₂ (fun x y : EReal => x + y) rfl (Finset.sum_congr rfl fun k _ => ?_)
    refine congrArg₂ (fun x y : EReal => x * y) rfl ((hv ⟨k.val, by omega⟩ ⟨d % 256, Nat.mod_lt _ (by decide)⟩).trans ?_)
    show ((V (n + k.val) (d % 256) : ℝ) : EReal) = _
    rw [Nat.mod_eq_of_lt hd]

/-- The last tile, masked. -/
theorem row_updD : Row S V r (n + (r.val % 256 + 257)) (updD s kv z) := by
  obtain ⟨μ, ν, hm, hl, hi⟩ := hz
  refine ⟨nm μ (fun k : Fin 512 => (k0_pay55 (F := Ideal) s (ix2 r k) : EReal)), _, fun x => (pay97_apply _ r x).trans (mD s z.m r μ hm x), fun x => lD s z.m z.l r μ ν hm hl x, ?_⟩
  refine Online.inv_step S V n μ ν _ 256 hi 512 ((r.val % 256 + 257)) (by omega) (by omega) (fun k : Fin 512 => (k0_pay55 (F := Ideal) s (ix2 r k) : EReal)) (fun k => ?_) _ _ _ rfl rfl fun d hd => ?_
  · rw [mskD]; split_ifs; · exact hs k
    · rfl
  · refine (aD s z.m z.a kv r μ hm ⟨d % 256, Nat.mod_lt _ (by decide)⟩).trans ?_
    refine congrArg₂ (fun x y : EReal => x + y) rfl (Finset.sum_congr rfl fun k _ => ?_)
    refine congrArg₂ (fun x y : EReal => x * y) rfl ((hv ⟨k.val, by omega⟩ ⟨d % 256, Nat.mod_lt _ (by decide)⟩).trans ?_)
    show ((V (n + k.val) (d % 256) : ℝ) : EReal) = _
    rw [Nat.mod_eq_of_lt hd]

end

/-- A tile read at an index. -/
theorem kvt_apply (x3 : Vec Ideal S8192x384 .bf16) (n : ℕ) (hn : n < 16) (k : Fin 512) (c : Fin 384) :
    (kvt x3 n (ix2 k c) : EReal) = x3 (ix2 ⟨512 * n + k.val, by omega⟩ c) := by
  unfold kvt VecWindow.window
  refine congrArg x3 (funext fun a => Fin.ext ?_)
  fin_cases a
  · show 512 * (n % 16) + 1 * k.val = 512 * n + k.val
    rw [Nat.mod_eq_of_lt hn]; omega
  · show 0 + 1 * c.val = c.val
    omega

section

variable (S : ℕ → ℝ) (V : ℕ → ℕ → ℝ) (r : Fin 2048) (qs : FVec Ideal S2048x384 .bf16) (x3 : Vec Ideal S8192x384 .bf16)
  (hS : ∀ k : Fin 8192, (∑ c : Fin 384, (qs (ix2 r c) * x3 (ix2 k c) : EReal)) = ((S k.val : ℝ) : EReal))
  (hV : ∀ (k : Fin 8192) (d : Fin 256), (x3 (ix2 k ⟨d.val, lt_key d⟩) : EReal) = ((V k.val d.val : ℝ) : EReal))

include hS hV

theorem tile_s (n : ℕ) (hn : n < 16) (k : Fin 512) : (sc qs (kvt x3 n) (ix3 0 r k) : EReal) = ((S (512 * n + k.val) : ℝ) : EReal) := by
  rw [sc_apply, Finset.sum_congr rfl fun c _ => by rw [kvt_apply x3 n hn]]
  exact hS ⟨512 * n + k.val, by omega⟩

theorem tile_v (n : ℕ) (hn : n < 16) (k : Fin 512) (d : Fin 256) :
    (kvt x3 n (ix2 k ⟨d.val, lt_key d⟩) : EReal) = ((V (512 * n + k.val) d.val : ℝ) : EReal) :=
  (kvt_apply x3 n hn k _).trans (hV ⟨512 * n + k.val, by omega⟩ d)

theorem row_stN : ∀ n : ℕ, n ≤ 16 → Row S V r (512 * n) (stN qs x3 n)
  | 0, _ => row_init S V r
  | n + 1, h => by
    rw [show 512 * (n + 1) = 512 * n + 512 by omega]
    exact row_upd S V r _ _ _ _ (row_stN n (by omega)) (tile_s S V r qs x3 hS hV n (by omega)) (tile_v S V r qs x3 hS hV n (by omega))

/-- After the last tile of query block `j` a row has seen exactly the keys up to its own position. -/
theorem row_fin (j : ℕ) (hj : j < 32) : Row S V r (256 * j + r.val % 256 + 1) (fin qs x3 j) := by
  unfold fin
  split_ifs with h
  · rw [show 256 * j + r.val % 256 + 1 = 512 * (j / 2) + (r.val % 256 + 1) by omega]
    exact row_updH S V r _ _ _ _ (row_stN S V r qs x3 hS hV (j / 2) (by omega)) (tile_s S V r qs x3 hS hV _ (by omega)) (tile_v S V r qs x3 hS hV _ (by omega))
  · rw [show 256 * j + r.val % 256 + 1 = 512 * (j / 2) + (r.val % 256 + 257) by omega]
    exact row_updD S V r _ _ _ _ (row_stN S V r qs x3 hS hV (j / 2) (by omega)) (tile_s S V r qs x3 hS hV _ (by omega)) (tile_v S V r qs x3 hS hV _ (by omega))

end

end Cert.MlaIdeal.Att

end
-- ==== Proof.Outp.lean ====
/-
  The block of the result the attention kernel stores, read at an index: the head's averages under the head's
  projection; and the rows of queries it starts from.
-/
module

public import proofs.«01_k».proof.Proof.Row
public import Idealize.ShloMosaic.Lib.Pipeline.Value

@[expose] public section

set_option maxHeartbeats 1000000

noncomputable section

namespace Cert.MlaIdeal.Att

open Idealize.ShloMosaic Idealize.ShloMosaic.TcCoe Cert.MlaIdeal Cert.MlaIdeal.Gen

theorem p101_apply (a : FVec Ideal S2048x256 .f32) (l : FVec Ideal S2048x128 .f32) (r : Fin 2048) (ν : EReal)
    (hl : ∀ x, (l (ix2 r x) : EReal) = ν) (d : Fin 256) :
    (k0_pay101 (F := Ideal) a l (ix2 r d) : EReal) = a (ix2 r d) * Ideal.div 1 ν := by
  pointwise [k0_pay101, hl]
  simp only [dite_eq_ite, ite_self]

theorem p103_apply (a : FVec Ideal S2048x256 .f32) (l : FVec Ideal S2048x128 .f32) (t d : Fin 256) :
    (k0_pay103 (F := Ideal) a l (ix2 t d) : EReal) = k0_pay101 (F := Ideal) a l (ix2 ⟨1280 + t.val, by omega⟩ d) := by
  pointwise [k0_pay103]

theorem wt_apply (x4 : Vec Ideal S8x256x512 .bf16) (h : Fin 8) (x : Fin 256) (n : Fin 512) :
    (wt x4 h.val (ix3 0 x n) : EReal) = x4 (ix3 h x n) := by
  unfold wt VecWindow.window
  refine congrArg x4 (funext fun a => Fin.ext ?_)
  fin_cases a
  · show h.val % 8 + 1 * 0 = h.val
    omega
  · show 0 + 1 * x.val = x.val
    omega
  · show 0 + 1 * n.val = n.val
    omega

/-- The stored block: the eight heads' products, added. -/
theorem outOf_sum (z : St Ideal) (x4 : Vec Ideal S8x256x512 .bf16) (t : Fin 256) (n : Fin 512) :
    (outOf z x4 (ix2 t n) : EReal)
      = ∑ h : Fin 8, ∑ x : Fin 256, (k0_pay101 (F := Ideal) z.a z.l (ix2 ⟨256 * h.val + t.val, by omega⟩ x) * wt x4 h.val (ix3 0 x n) : EReal) := by
  rw [Fin.sum_univ_eight]
  unfold outOf
  pointwise [k0_pay1, k0_pay102, p103_apply]
  try rfl

/-- The stored block where only a head's own columns of the projection are not zero. -/
theorem outOf_apply (z : St Ideal) (x4 : Vec Ideal S8x256x512 .bf16) (t : Fin 256) (n : Fin 512) (A : Fin 8 → Fin 256 → ℝ)
    (hA : ∀ (h : Fin 8) (d : Fin 256), (k0_pay101 (F := Ideal) z.a z.l (ix2 ⟨256 * h.val + t.val, by omega⟩ d) : EReal) = ((A h d : ℝ) : EReal))
    (w : Fin 256 → Fin 8 → Fin 64 → EReal)
    (hw : ∀ (h : Fin 8) (d : Fin 256), (x4 (ix3 h d n) : EReal) = if n.val / 64 = h.val then w d h ⟨n.val % 64, Nat.mod_lt _ (by decide)⟩ else 0) :
    (outOf z x4 (ix2 t n) : EReal)
      = ∑ d : Fin 256, w d ⟨n.val / 64, by omega⟩ ⟨n.val % 64, Nat.mod_lt _ (by decide)⟩ * ((A ⟨n.val / 64, by omega⟩ d : ℝ) : EReal) := by
  have e : ∀ (h : Fin 8) (x : Fin 256), (k0_pay101 (F := Ideal) z.a z.l (ix2 ⟨256 * h.val + t.val, by omega⟩ x) * wt x4 h.val (ix3 0 x n) : EReal)
      = ((A h x : ℝ) : EReal) * if n.val / 64 = h.val then w x h ⟨n.val % 64, Nat.mod_lt _ (by decide)⟩ else 0 := fun h x =>
    congrArg₂ (fun x y : EReal => x * y) (hA h x) ((wt_apply x4 h x n).trans (hw h x))
  rw [outOf_sum, Finset.sum_congr rfl fun h _ => Finset.sum_congr rfl fun x _ => e h x,
    Finset.sum_eq_single (⟨n.val / 64, by omega⟩ : Fin 8) _ (fun h => absurd (Finset.mem_univ _) h)]
  · exact Finset.sum_congr rfl fun d _ => by rw [if_pos rfl, mul_comm]
  · intro h _ hh
    refine Finset.sum_eq_zero fun x _ => ?_
    rw [if_neg fun hc => hh (Fin.ext hc.symm), mul_zero]

theorem slice_apply (x2 : Vec Ideal S256x3072 .bf16) (o : ℕ) (ho : o ≤ 2688) (h) (r : Fin 256) (c : Fin 384) :
    (extractStridedSlice S256x384 ![0, o] x2 h (ix2 r c) : EReal) = x2 (ix2 r ⟨o + c.val, by omega⟩) := by
  pointwise

theorem cast_id (x2 : Vec Ideal S256x3072 .bf16) : shapeCast S256x3072 x2 shapeCasts_S256x3072_S256x3072 = x2 := by
  funext i
  rw [show i = ix2 (i 0) (i 1) from funext fun a => match a with | ⟨0, _⟩ => rfl | ⟨1, _⟩ => rfl]
  pointwise

set_option maxRecDepth 100000 in
/-- The rows of queries: head `h`'s token `t` is the token's lanes `384 h` to `384 h + 383`. -/
theorem qs_apply (x2 : Vec Ideal S256x3072 .bf16) (h : Fin 8) (t : Fin 256) (c : Fin 384) :
    (k0_pay78 (F := Ideal) x2 (ix2 ⟨256 * h.val + t.val, by omega⟩ c) : EReal) = x2 (ix2 t ⟨384 * h.val + c.val, by omega⟩) := by
  have off : ∀ (y : Fin 2048) (b : Fin S256x384.rank), b.cast (rfl : S256x384.rank = S2048x384.rank) ≠ (0 : Fin S2048x384.rank) →
      ((ix2 t c : S256x384.Idx) b).val = ((ix2 y c : S2048x384.Idx) (b.cast rfl)).val := fun y b hb =>
    match b, hb with | ⟨0, _⟩, hb => absurd rfl hb | ⟨1, _⟩, _ => rfl
  unfold k0_pay78
  rw [cast_id]
  fin_cases h
  · refine (concatenate_apply_piece (t := S2048x384) 0 _ _ (ix2 _ c) 0 (by show 0 < 8; omega) S256x384 _ rfl rfl 0 rfl (ix2 t c) (off _) rfl).trans ?_
    exact slice_apply x2 0 (by omega) _ t c
  · refine (concatenate_apply_piece (t := S2048x384) 0 _ _ (ix2 _ c) 1 (by show 1 < 8; omega) S256x384 _ rfl rfl 256 rfl (ix2 t c) (off _) rfl).trans ?_
    exact slice_apply x2 384 (by omega) _ t c
  · refine (concatenate_apply_piece (t := S2048x384) 0 _ _ (ix2 _ c) 2 (by show 2 < 8; omega) S256x384 _ rfl rfl 512 rfl (ix2 t c) (off _) rfl).trans ?_
    exact slice_apply x2 768 (by omega) _ t c
  · refine (concatenate_apply_piece (t := S2048x384) 0 _ _ (ix2 _ c) 3 (by show 3 < 8; omega) S256x384 _ rfl rfl 768 rfl (ix2 t c) (off _) rfl).trans ?_
    exact slice_apply x2 1152 (by omega) _ t c
  · refine (concatenate_apply_piece (t := S2048x384) 0 _ _ (ix2 _ c) 4 (by show 4 < 8; omega) S256x384 _ rfl rfl 1024 rfl (ix2 t c) (off _) rfl).trans ?_
    exact slice_apply x2 1536 (by omega) _ t c
  · refine (concatenate_apply_piece (t := S2048x384) 0 _ _ (ix2 _ c) 5 (by show 5 < 8; omega) S256x384 _ rfl rfl 1280 rfl (ix2 t c) (off _) rfl).trans ?_
    exact slice_apply x2 1920 (by omega) _ t c
  · refine (concatenate_apply_piece (t := S2048x384) 0 _ _ (ix2 _ c) 6 (by show 6 < 8; omega) S256x384 _ rfl rfl 1536 rfl (ix2 t c) (off _) rfl).trans ?_
    exact slice_apply x2 2304 (by omega) _ t c
  · refine (concatenate_apply_piece (t := S2048x384) 0 _ _ (ix2 _ c) 7 (by show 7 < 8; omega) S256x384 _ rfl rfl 1792 rfl (ix2 t c) (off _) rfl).trans ?_
    exact slice_apply x2 2688 (by omega) _ t c

end Cert.MlaIdeal.Att

end
-- ==== Proof.Value.lean ====
/-
  The array the attention program leaves, at the exact reals: at every index the average of the keys under the softmax
  weights of the scores, projected by the column's head.
-/
module

public import proofs.«01_k».proof.Proof.Host
public import proofs.«01_k».proof.Proof.Outp

@[expose] public section

set_option maxHeartbeats 1000000
set_option maxRecDepth 100000

noncomputable section

namespace Cert.MlaIdeal.Att

open Idealize.ShloMosaic Idealize.ShloMosaic.TcCoe Idealize.SL.Sem Cert.MlaIdeal Cert.MlaIdeal.Gen
open Idealize.ShloMosaic.Pipeline (Dat Cfg Window)

variable (m : (ℓ : Loc nD τ sig) → Buf (Elt Ideal) ℓ) (ρ : Dev nD → PrngReg) (c : Dev nD)

theorem ix4_eq {n0 n1 n2 n3 : ℕ} {a a' : Fin n0} {b b' : Fin n1} {d d' : Fin n2} {e e' : Fin n3} (ha : a.val = a'.val) (hb : b.val = b'.val)
    (hd : d.val = d'.val) (he : e.val = e'.val) : ix4 a b d e = ix4 a' b' d' e' := by
  rw [Fin.ext ha, Fin.ext hb, Fin.ext hd, Fin.ext he]

theorem ix3_eq {n0 n1 n2 : ℕ} {a a' : Fin n0} {b b' : Fin n1} {d d' : Fin n2} (ha : a.val = a'.val) (hb : b.val = b'.val)
    (hd : d.val = d'.val) : ix3 a b d = ix3 a' b' d' := by
  rw [Fin.ext ha, Fin.ext hb, Fin.ext hd]

theorem ix2_eq {n0 n1 : ℕ} {a a' : Fin n0} {b b' : Fin n1} (ha : a.val = a'.val) (hb : b.val = b'.val) : ix2 a b = ix2 a' b' := by
  rw [Fin.ext ha, Fin.ext hb]

/-! ## Where each point's blocks lie -/

theorem at0 : ∀ t : Fin grid0.N, win0_0.index t 0 = t.val ∧ win0_0.index t 1 = 0 := by decide +kernel
theorem at1 : ∀ t : Fin grid0.N, win0_1.index t 0 = t.val / 32 ∧ win0_1.index t 1 = 0 := by decide +kernel
theorem at2 : ∀ t : Fin grid0.N, win0_2.index t 0 = 0 ∧ win0_2.index t 1 = 0 ∧ win0_2.index t 2 = 0 := by decide +kernel
theorem at3 : ∀ t : Fin grid0.N, win0_3.index t 0 = t.val ∧ win0_3.index t 1 = 0 := by decide +kernel
theorem atj : ∀ t : Fin grid0.N, (grid0.coords t 1).val = t.val % 32 := by decide +kernel

theorem blk0 (t : Fin cfg0.N) (a : Fin 256) (n : Fin 3072) (h : 256 * t.val + a.val < 16384) :
    ((iblk m c 0 t : Vec Ideal S256x3072 .bf16) (ix2 a n) : EReal) = V m c main_v15 (ix2 ⟨256 * t.val + a.val, h⟩ n) := by
  unfold iblk
  rw [View.read_apply]
  show V m c main_v15 _ = V m c main_v15 _
  refine congrArg (V m c main_v15) (funext fun x => Fin.ext ?_)
  match x with
  | ⟨0, _⟩ => show win0_0.index t 0 * 256 + 1 * a.val = 256 * t.val + a.val; rw [(at0 t).1]; omega
  | ⟨1, _⟩ => show win0_0.index t 1 * 3072 + 1 * n.val = n.val; rw [(at0 t).2]; omega

theorem blk1 (t : Fin cfg0.N) (k : Fin 8192) (n : Fin 384) (h : 8192 * (t.val / 32) + k.val < 16384) :
    ((iblk m c 1 t : Vec Ideal S8192x384 .bf16) (ix2 k n) : EReal) = V m c main_v18 (ix2 ⟨8192 * (t.val / 32) + k.val, h⟩ n) := by
  unfold iblk
  rw [View.read_apply]
  show V m c main_v18 _ = V m c main_v18 _
  refine congrArg (V m c main_v18) (funext fun x => Fin.ext ?_)
  match x with
  | ⟨0, _⟩ => show win0_1.index t 0 * 8192 + 1 * k.val = 8192 * (t.val / 32) + k.val; rw [(at1 t).1]; omega
  | ⟨1, _⟩ => show win0_1.index t 1 * 384 + 1 * n.val = n.val; rw [(at1 t).2]; omega

theorem blk2 (t : Fin cfg0.N) (h : Fin 8) (r : Fin 256) (n : Fin 512) :
    ((iblk m c 2 t : Vec Ideal S8x256x512 .bf16) (ix3 h r n) : EReal) = V m c main_v32 (ix3 h r n) := by
  unfold iblk
  rw [View.read_apply]
  show V m c main_v32 _ = V m c main_v32 _
  refine congrArg (V m c main_v32) (funext fun x => Fin.ext ?_)
  match x with
  | ⟨0, _⟩ => show win0_2.index t 0 * 8 + 1 * h.val = h.val; rw [(at2 t).1]; omega
  | ⟨1, _⟩ => show win0_2.index t 1 * 256 + 1 * r.val = r.val; rw [(at2 t).2.1]; omega
  | ⟨2, _⟩ => show win0_2.index t 2 * 512 + 1 * n.val = n.val; rw [(at2 t).2.2]; omega

/-! ## The scores -/

theorem split384 (f : Fin 384 → EReal) :
    ∑ x, f x = (∑ x : Fin 256, f ⟨x.val, by omega⟩) + ((∑ x : Fin 32, f ⟨256 + x.val, by omega⟩) + ∑ x : Fin 96, f ⟨288 + x.val, by omega⟩) := by
  rw [Fin.sum_univ_add (a := 256) (b := 128) f, Fin.sum_univ_add (a := 32) (b := 96) fun i => f (Fin.natAdd 256 i)]
  rfl

theorem k_lo (t : Fin cfg0.N) (b : Fin 2) (hb : b.val = t.val / 32) (k : Fin 8192) (x : ℕ) (hx : x < 288) :
    ((iblk m c 1 t : Vec Ideal S8192x384 .bf16) (ix2 k ⟨x, by omega⟩) : EReal) = akv m c (ix3 b k ⟨x, hx⟩) := by
  rw [blk1 m c t k _ (by omega), V18, dif_pos (show x < 288 from hx)]
  refine congrArg (akv m c) (ix3_eq ?_ ?_ rfl)
  · show (8192 * (t.val / 32) + k.val) / 8192 = b.val; omega
  · show (8192 * (t.val / 32) + k.val) % 8192 = k.val; omega

theorem k_hi (t : Fin cfg0.N) (b : Fin 2) (hb : b.val = t.val / 32) (k : Fin 8192) (x : Fin 96) :
    ((iblk m c 1 t : Vec Ideal S8192x384 .bf16) (ix2 k ⟨288 + x.val, by omega⟩) : EReal) = (0 : EReal) := by
  rw [blk1 m c t k _ (by omega), V18, dif_neg (show ¬ 288 + x.val < 288 by omega)]

section

variable (t : Fin cfg0.N) (b : Fin 2) (hb : b.val = t.val / 32) (i : Fin 8192) (a : Fin 256) (hi : i.val = 256 * (t.val % 32) + a.val)

include hb hi

theorem row_lt : 256 * t.val + a.val < 16384 := by omega

theorem q_lo (h : Fin 8) (x : Fin 256) :
    ((iblk m c 0 t : Vec Ideal S256x3072 .bf16) (ix2 a ⟨384 * h.val + x.val, by omega⟩) : EReal) = aq m c (ix4 b i h x) * ((scale : ℝ) : EReal) := by
  have hx : (384 * h.val + x.val) % 384 = x.val := by omega
  rw [blk0 m c t a _ (by omega), V15, dif_pos (show (384 * h.val + x.val) % 384 < 256 by omega)]
  refine congrArg (fun j => aq m c j * ((scale : ℝ) : EReal)) (ix4_eq ?_ ?_ ?_ hx)
  · show (256 * t.val + a.val) / 8192 = b.val; omega
  · show (256 * t.val + a.val) % 8192 = i.val; omega
  · show (384 * h.val + x.val) / 384 = h.val; omega

theorem q_mid (h : Fin 8) (x : Fin 32) :
    ((iblk m c 0 t : Vec Ideal S256x3072 .bf16) (ix2 a ⟨384 * h.val + (256 + x.val), by omega⟩) : EReal) = aqr m c (ix4 b i h x) * ((scale : ℝ) : EReal) := by
  rw [blk0 m c t a _ (by omega), V15, dif_neg (show ¬ (384 * h.val + (256 + x.val)) % 384 < 256 by omega),
    dif_pos (show (384 * h.val + (256 + x.val)) % 384 - 256 < 32 by omega)]
  refine congrArg (fun j => aqr m c j * ((scale : ℝ) : EReal)) (ix4_eq ?_ ?_ ?_ ?_)
  · show (256 * t.val + a.val) / 8192 = b.val; omega
  · show (256 * t.val + a.val) % 8192 = i.val; omega
  · show (384 * h.val + (256 + x.val)) / 384 = h.val; omega
  · show (384 * h.val + (256 + x.val)) % 384 - 256 = x.val; omega

variable (hq : Spec.AllReal Spec.SQ (aq m c)) (hqr : Spec.AllReal Spec.SR (aqr m c)) (hkv : Spec.AllReal Spec.SK (akv m c))

include hq hqr hkv

/-- A score the kernel forms, at base two. -/
theorem score_eq (h : Fin 8) (k : Fin 8192) :
    (∑ x : Fin 384, (k0_pay78 (F := Ideal) (iblk m c 0 t) (ix2 ⟨256 * h.val + a.val, by omega⟩ x) * (iblk m c 1 t : Vec Ideal S8192x384 .bf16) (ix2 k x) : EReal))
      = ((Spec.score (aq m c) (aqr m c) (akv m c) b h i k.val / Real.log 2 : ℝ) : EReal) := by
  have e1 : ∀ x : Fin 256, (k0_pay78 (F := Ideal) (iblk m c 0 t) (ix2 ⟨256 * h.val + a.val, by omega⟩ ⟨x.val, by omega⟩)
      * (iblk m c 1 t : Vec Ideal S8192x384 .bf16) (ix2 k ⟨x.val, by omega⟩) : EReal)
      = ((scale * ((akv m c (ix3 b k ⟨x.val, by omega⟩)).toReal * (aq m c (ix4 b i h x)).toReal) : ℝ) : EReal) := fun x => by
    refine (congrArg₂ (fun x y : EReal => x * y) ((qs_apply _ h a _).trans (q_lo m c t b hb i a hi h x)) (k_lo m c t b hb k x.val (by omega))).trans ?_
    rw [EReal.coe_mul, EReal.coe_mul, ← hq, ← hkv, mul_comm (akv m c _), ← mul_assoc, mul_comm ((scale : ℝ) : EReal)]
  have e2 : ∀ x : Fin 32, (k0_pay78 (F := Ideal) (iblk m c 0 t) (ix2 ⟨256 * h.val + a.val, by omega⟩ ⟨256 + x.val, by omega⟩)
      * (iblk m c 1 t : Vec Ideal S8192x384 .bf16) (ix2 k ⟨256 + x.val, by omega⟩) : EReal)
      = ((scale * ((akv m c (ix3 b k ⟨256 + x.val, by omega⟩)).toReal * (aqr m c (ix4 b i h x)).toReal) : ℝ) : EReal) := fun x => by
    refine (congrArg₂ (fun x y : EReal => x * y) ((qs_apply _ h a _).trans (q_mid m c t b hb i a hi h x)) (k_lo m c t b hb k (256 + x.val) (by omega))).trans ?_
    rw [EReal.coe_mul, EReal.coe_mul, ← hqr, ← hkv, mul_comm (akv m c _), ← mul_assoc, mul_comm ((scale : ℝ) : EReal)]
  have e3 : ∀ x : Fin 96, (k0_pay78 (F := Ideal) (iblk m c 0 t) (ix2 ⟨256 * h.val + a.val, by omega⟩ ⟨288 + x.val, by omega⟩)
      * (iblk m c 1 t : Vec Ideal S8192x384 .bf16) (ix2 k ⟨288 + x.val, by omega⟩) : EReal) = 0 := fun x =>
    (congrArg (fun y : EReal => _ * y) (k_hi m c t b hb k x)).trans (mul_zero _)
  refine (split384 _).trans ?_
  rw [Finset.sum_congr rfl fun x _ => e1 x, Finset.sum_congr rfl fun x _ => e2 x, Finset.sum_congr rfl fun x _ => e3 x,
    Finset.sum_const_zero, add_zero, ← Online.coe_sum, ← Online.coe_sum, ← EReal.coe_add, ← Finset.mul_sum, ← Finset.mul_sum, ← mul_add]
  rw [Spec.score, Spec.dotQ, Spec.pos_val, scale, div_div, one_div_mul_eq_div]

/-- A block of the result, at an index. -/
theorem outAt_apply (n : Fin 512) :
    (outAt m c t (ix2 a n) : EReal) = Spec.outv (aq m c) (aqr m c) (akv m c) (aw m c) b i n := by
  have hj : (grid0.coords t 1).val = t.val % 32 := atj t
  unfold outAt out
  refine (outOf_apply _ _ a n (fun h d => Online.avg (Spec.score (aq m c) (aqr m c) (akv m c) b h i) (fun k => Spec.key (akv m c) b k d.val) (i.val + 1))
    (fun h d => ?_) (fun d h e => aw m c (ix3 d h e)) (fun h d => (blk2 m c t h d n).trans (V32 m c h d n))).trans rfl
  have hr : (256 * h.val + a.val) % 256 = a.val := by omega
  obtain ⟨μ, ν, -, hl, hI⟩ := row_fin (fun k => Spec.score (aq m c) (aqr m c) (akv m c) b h i k / Real.log 2) (fun k d => Spec.key (akv m c) b k d)
    ⟨256 * h.val + a.val, by omega⟩ (k0_pay78 (F := Ideal) (iblk m c 0 t)) (iblk m c 1 t) (fun k => score_eq m c t b hb i a hi hq hqr hkv h k)
    (fun k d => (k_lo m c t b hb k d.val (by omega)).trans (by
      have : (⟨d.val % 288, Nat.mod_lt _ (by decide)⟩ : Fin 288) = ⟨d.val, by omega⟩ := Fin.ext (Nat.mod_eq_of_lt (by omega))
      rw [Spec.key, Spec.pos_val, this]; exact hkv _)) (t.val % 32) (by omega)
  have hn : 256 * (t.val % 32) + (256 * h.val + a.val) % 256 + 1 = i.val + 1 := by omega
  rw [hj]
  refine (p101_apply _ _ _ ν hl d).trans ?_
  have := Online.inv_avg (Spec.score (aq m c) (aqr m c) (akv m c) b h i) _ (fun k => div_mul_cancel₀ _ log2_ne) _ _ (by omega) _ _ _ 256 hI d.val d.isLt
  simp only [hn] at this
  refine Eq.trans ?_ this
  refine congrArg (fun y : Fin 256 => ((fin (k0_pay78 (F := Ideal) (iblk m c 0 t)) (iblk m c 1 t) (t.val % 32)).a (ix2 _ y) : EReal) * Ideal.div 1 ν) (Fin.ext ?_)
  exact (Nat.mod_eq_of_lt d.isLt).symm

end

/-! ## The array -/

section

variable (hq : Spec.AllReal Spec.SQ (aq m c)) (hqr : Spec.AllReal Spec.SR (aqr m c)) (hkv : Spec.AllReal Spec.SK (akv m c))

/-- The array the program leaves. -/
def result : Buf (Elt Ideal) ((c.tc : Thread nD τ).loc main_v33) := fun i =>
  Spec.outv (aq m c) (aqr m c) (akv m c) (aw m c) ⟨(i 0).val / 8192, by have h : (i 0).val < 16384 := (i 0).isLt; omega⟩
    ⟨(i 0).val % 8192, Nat.mod_lt _ (by decide)⟩ (i 1)

theorem outv_eq {q qr kv w} {b b' : Fin 2} {i i' : Fin 8192} {n n' : Fin 512} (hb : b.val = b'.val) (hi : i.val = i'.val) (hn : n.val = n'.val) :
    Spec.outv q qr kv w b i n = Spec.outv q qr kv w b' i' n' := by
  rw [Fin.ext hb, Fin.ext hi, Fin.ext hn]

include hq hqr hkv

theorem flushed_eq (t : Fin cfg0.N) :
    (dats m 0 c).flushed 3 t = ((cfg0.win 3).blk t).view.read (Elt Ideal) (result m c) := by
  have hN : t.val < 64 := t.isLt.trans_eq N_0
  show (cfg0.win 3).cut (grid0.coords t) ((dats m 0 c).after 3 t) = _
  rw [after_3]
  funext j
  rw [View.read_apply]
  have h0 : (j 0).val < 256 := (j 0).isLt
  have h1 : (j 1).val < 512 := (j 1).isLt
  refine Eq.trans (show _ = outAt m c t (ix2 ⟨(j 0).val, h0⟩ ⟨(j 1).val, h1⟩) from congrArg (outAt m c t) (funext fun x => Fin.ext ?_)) ?_
  · match x with
    | ⟨0, _⟩ => rfl
    | ⟨1, _⟩ => rfl
  refine (outAt_apply m c t ⟨t.val / 32, by omega⟩ rfl ⟨256 * (t.val % 32) + (j 0).val, by omega⟩ ⟨(j 0).val, h0⟩ rfl hq hqr hkv ⟨(j 1).val, h1⟩).trans ?_
  refine outv_eq ?_ ?_ ?_
  · show t.val / 32 = (win0_3.index t 0 * 256 + 1 * (j 0).val) / 8192
    rw [(at3 t).1]; omega
  · show 256 * (t.val % 32) + (j 0).val = (win0_3.index t 0 * 256 + 1 * (j 0).val) % 8192
    rw [(at3 t).1]; omega
  · show (j 1).val = win0_3.index t 1 * 512 + 1 * (j 1).val
    rw [(at3 t).2]; omega

theorem final_eq : (dats m 0 c).arrAt 3 cfg0.N = result m c :=
  (dats m 0 c).arrAt_eq_of_cover 3 (result m c) (fun t _ => flushed_eq m c hq hqr hkv t) fun i => by
    have h0 : (i 0).val < 16384 := (i 0).isLt
    have h1 : (i 1).val < 512 := (i 1).isLt
    have ht : (i 0).val / 256 < cfg0.N := lt_of_lt_of_eq (by omega) N_0.symm
    refine ⟨⟨(i 0).val / 256, ht⟩, flush0_3 _, ?_⟩
    show i ∈ ((View.whole main_v33).slice (win0_3.rect ⟨(i 0).val / 256, ht⟩)).set
    rw [View.set_slice_whole, Rect.mem_set_unit]
    intro a
    have e0 := (at3 ⟨(i 0).val / 256, ht⟩).1
    have e1 := (at3 ⟨(i 0).val / 256, ht⟩).2
    match a with
    | ⟨0, _⟩ =>
      show win0_3.index _ 0 * 256 ≤ (i 0).val ∧ (i 0).val < win0_3.index _ 0 * 256 + 256
      rw [e0]; dsimp only; omega
    | ⟨1, _⟩ =>
      show win0_3.index _ 1 * 512 ≤ (i 1).val ∧ (i 1).val < win0_3.index _ 1 * 512 + 512
      rw [e1]; omega

end

/-- The whole program's run: its result array and its arguments, on every device. -/
theorem run_value (h : ∀ c, Spec.AllReal Spec.SQ (aq m c) ∧ Spec.AllReal Spec.SR (aqr m c) ∧ Spec.AllReal Spec.SK (akv m c)) :
    θ_run defs (onTc (τ := τ) (main (F := Ideal))) ⟨m, fun _ => 0, ρ⟩ (fun r => ∀ c : Dev nD,
      r.2.mem ((c.tc : Thread nD τ).loc main_v33) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c =>
      ⟨((hr.1 c).1 3).trans (final_eq m c (h c).1 (h c).2.1 (h c).2.2),
        ((hr.1 c).2 main_arg0 (Pipeline.mem_restRefs_of main_arg0 (by decide) (by decide))).trans (V_main_arg0 m c),
        ((hr.1 c).2 main_arg1 (Pipeline.mem_restRefs_of main_arg1 (by decide) (by decide))).trans (V_main_arg1 m c),
        ((hr.1 c).2 main_arg2 (Pipeline.mem_restRefs_of main_arg2 (by decide) (by decide))).trans (V_main_arg2 m c),
        ((hr.1 c).2 main_arg3 (Pipeline.mem_restRefs_of main_arg3 (by decide) (by decide))).trans (V_main_arg3 m c)⟩)
    (run_main m ρ)

end Cert.MlaIdeal.Att

end
-- ==== Proof.Ref.lean ====
/-
  The reference of the attention read at an index: masked scores, their maximum along a row, the weights, and the
  weighted sum of keys under a head's projection.
-/
module

public import proofs.«01_k».proof.Proof.Gen.MlaRefIdeal.Run
public import proofs.«01_k».proof.Proof.Spec

@[expose] public section

set_option maxHeartbeats 1000000

noncomputable section

namespace Cert.MlaRefIdeal.Att

open Idealize.ShloMosaic Idealize.ShloMosaic.TcCoe Cert.MlaRefIdeal Cert.MlaRefIdeal.Gen

/-- The masked scores. -/
def rS (q : FVec Ideal S2x8192x8x256 .f32) (qr : FVec Ideal S2x8192x8x32 .f32) (kv : FVec Ideal S2x8192x288 .f32) : FVec Ideal S2x8x8192x8192 .f32 :=
  (select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (Host.divf (addf (transpose S2x8x8192x8192 [0, 3, 2, 1] (Host.dotGeneral dot_S2x8192x256_S2x8192x8x256_S2x8192x8192x8_2_3_1_12_0_0 none (extractStridedSlice S2x8192x256 ![0, 0, 0] kv slices_S2x8192x288_S2x8192x256_0_0_0) q) transposes_S2x8192x8192x8_S2x8x8192x8192_0_3_2_1) (transpose S2x8x8192x8192 [0, 3, 2, 1] (Host.dotGeneral dot_S2x8192x32_S2x8192x8x32_S2x8192x8192x8_2_3_1_12_0_0 none (extractStridedSlice S2x8192x32 ![0, 0, 256] kv slices_S2x8192x288_S2x8192x32_0_0_256) qr) transposes_S2x8192x8192x8_S2x8x8192x8192_0_3_2_1)) (broadcastInDim S2x8x8192x8192 ![] bcast_S_S2x8x8192x8192 (Host.sqrt (constant S_ .f32 0x42C00000#32)))) (broadcastInDim S2x8x8192x8192 ![] bcast_S_S2x8x8192x8192 (id (constant S_ .f32 0xFF800000#32))))

/-- The maximum along each row. -/
def rM (S : FVec Ideal S2x8x8192x8192 .f32) : FVec Ideal S2x8x8192 .f32 :=
  (maximumf (broadcastInDim S2x8x8192 ![] bcast_S_S2x8x8192 (constant S_ .f32 0xFF800000#32)) (Host.reduce FloatOps.maximumf S (constant S_ .f32 0xFF800000#32) reducesTo_S2x8x8192x8192_S2x8x8192_d3 h_S_))

/-- The weights before they are divided by their sum. -/
def rE (S : FVec Ideal S2x8x8192x8192 .f32) (M : FVec Ideal S2x8x8192 .f32) : FVec Ideal S2x8x8192x8192 .f32 :=
  (Host.exp (subf S (broadcastInDim S2x8x8192x8192 ![0, 1, 2, 3] bcast_S2x8x8192x1_S2x8x8192x8192_0_1_2_3 (broadcastInDim S2x8x8192x1 ![0, 1, 2] bcast_S2x8x8192_S2x8x8192x1_0_1_2 M))))

/-- The weights divided by their sum. -/
def rP (E : FVec Ideal S2x8x8192x8192 .f32) : FVec Ideal S2x8x8192x8192 .f32 :=
  (Host.divf E (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd E (constant S_ .f32 0x00000000#32) reducesTo_S2x8x8192x8192_S2x8x8192_d3 h_S_))))

/-- The weighted sums of keys. -/
def rO (kv : FVec Ideal S2x8192x288 .f32) (P : FVec Ideal S2x8x8192x8192 .f32) : FVec Ideal S2x8192x8x256 .f32 :=
  (transpose S2x8192x8x256 [0, 3, 2, 1] (Host.dotGeneral dot_S2x8192x256_S2x8x8192x8192_S2x256x8x8192_1_3_2_12_0_0 none (extractStridedSlice S2x8192x256 ![0, 0, 0] kv slices_S2x8192x288_S2x8192x256_0_0_0) P) transposes_S2x256x8x8192_S2x8192x8x256_0_3_2_1)

/-- The heads' projections of the weighted sums. -/
def rR (w : FVec Ideal S256x8x64 .f32) (O : FVec Ideal S2x8192x8x256 .f32) : FVec Ideal S16384x512 .f32 :=
  shapeCast _ (transpose S2x8192x8x64 [2, 3, 0, 1] (Host.dotGeneral dot_S256x8x64_S2x8192x8x256_S8x64x2x8192_0_3_2_01_1_2 none w O) transposes_S8x64x2x8192_S2x8192x8x64_2_3_0_1) shapeCasts_S2x8192x8x64_S16384x512

theorem res_eq (m : (ℓ : Loc nD τ sig) → Buf (Elt Ideal) ℓ) (c : Dev nD) :
    Value.res_main_v32 m c =
      (let S := rS (m ((c.tc : Thread nD τ).loc main_arg0)) (m ((c.tc : Thread nD τ).loc main_arg1)) (m ((c.tc : Thread nD τ).loc main_arg2))
       rR (m ((c.tc : Thread nD τ).loc main_arg3)) (rO (m ((c.tc : Thread nD τ).loc main_arg2)) (rP (rE S (rM S))))) := rfl

theorem ofBits_ninf : Ideal.ofBits FTy.f32 4286578688#32 = ⊥ := by simp [Ideal.ofBits, Ideal.ieee]

theorem rS_apply (q : FVec Ideal S2x8192x8x256 .f32) (qr : FVec Ideal S2x8192x8x32 .f32) (kv : FVec Ideal S2x8192x288 .f32)
    (hq : Spec.AllReal _ q) (hqr : Spec.AllReal _ qr) (hkv : Spec.AllReal _ kv) (b : Fin 2) (h : Fin 8) (i k : Fin 8192) :
    (rS q qr kv (ix4 b h i k) : EReal) = if k.val < i.val + 1 then ((Spec.score q qr kv b h i k.val : ℝ) : EReal) else ⊥ := by
  have hc : IntOp.cmpi CmpIPredicate.sle (BitVec.ofNat 32 k.val) (BitVec.ofNat 32 i.val) = if k.val < i.val + 1 then 1#1 else 0#1 := by
    have : (BitVec.ofNat 32 k.val).sle (BitVec.ofNat 32 i.val) = decide (k.val < i.val + 1) := by
      have h1 : (BitVec.ofNat 32 k.val).toNat = k.val := by rw [BitVec.toNat_ofNat]; omega
      have h2 : (BitVec.ofNat 32 i.val).toNat = i.val := by rw [BitVec.toNat_ofNat]; omega
      rw [BitVec.sle_eq_decide, BitVec.toInt_eq_toNat_of_lt (by omega), BitVec.toInt_eq_toNat_of_lt (by omega), h1, h2]
      exact decide_eq_decide.mpr (by omega)
    show BitVec.ofBool ((BitVec.ofNat 32 k.val).sle _) = _
    rw [this]; split_ifs with hh <;> simp [hh]
  pointwise [rS]
  rw [hc, Spec.sqrt_96]
  have hb : (id (constant (F := Ideal) S_ FTy.f32 4286578688#32) ix0 : EReal) = ⊥ := ofBits_ninf
  have e1 : ∀ x : Fin 256, (kv (ix3 b k ⟨x.val, by omega⟩) * q (ix4 b i h x) : EReal)
      = (((kv (ix3 b k ⟨x.val, by omega⟩)).toReal * (q (ix4 b i h x)).toReal : ℝ) : EReal) := fun x => by
    rw [EReal.coe_mul, ← hq, ← hkv]
  have e2 : ∀ x : Fin 32, (kv (ix3 b k ⟨256 + x.val, by omega⟩) * qr (ix4 b i h x) : EReal)
      = (((kv (ix3 b k ⟨256 + x.val, by omega⟩)).toReal * (qr (ix4 b i h x)).toReal : ℝ) : EReal) := fun x => by
    rw [EReal.coe_mul, ← hqr, ← hkv]
  have es : (Ideal.div (∑ x : Fin 256, (kv (ix3 b k ⟨x.val, by omega⟩) * q (ix4 b i h x) : EReal)
      + ∑ x : Fin 32, (kv (ix3 b k ⟨256 + x.val, by omega⟩) * qr (ix4 b i h x) : EReal)) ((√96 : ℝ) : EReal))
      = ((Spec.score q qr kv b h i k.val : ℝ) : EReal) := by
    rw [Finset.sum_congr rfl fun x _ => e1 x, Finset.sum_congr rfl fun x _ => e2 x, ← Online.coe_sum, ← Online.coe_sum,
      ← EReal.coe_add, Ideal.div_coe Spec.sqrt96_ne, ← EReal.coe_mul, Spec.score, Spec.dotQ, Spec.pos_val, mul_one_div]
  rw [hb]
  split_ifs
  · exact es
  · rfl

theorem lift_max (h : Shape.Reduces S2x8x8192x8192 [3] S2x8x8192) (b : Fin 2) (g : Fin 8) (i k : Fin 8192) :
    h.lift (ix3 b g i) k = ix4 b g i k := by
  funext a
  fin_cases a <;> rfl

theorem fold_sup {n : ℕ} (f : Fin n → EReal) :
    Finset.fold (FloatOps.maximumf (F := Ideal) (φ := .f32)) (⊥ : EReal) f Finset.univ = Finset.univ.sup f := rfl

theorem max_ideal (x y : Ideal .f32) : (FloatOps.maximumf x y : Ideal .f32) = max (x : EReal) y := rfl

theorem rM_apply (S : FVec Ideal S2x8x8192x8192 .f32) (b : Fin 2) (h : Fin 8) (i : Fin 8192) :
    (rM S (ix3 b h i) : EReal) = Finset.univ.sup fun k : Fin 8192 => (S (ix4 b h i k) : EReal) := by
  have hr : Shape.Reduces S2x8x8192x8192 [3] S2x8x8192 := by decide
  have e := Host.reduce_eq_fold_single (s := S2x8x8192x8192) (a := 3) (FloatOps.maximumf (F := Ideal) (φ := .f32)) S
    (constant (F := Ideal) S_ .f32 0xFF800000#32) reducesTo_S2x8x8192x8192_S2x8x8192_d3 hr h_S_ (ix3 b h i)
  have e2 : (S ∘ hr.lift (ix3 b h i)) = fun k : Fin 8192 => S (ix4 b h i k) := by
    funext k; exact congrArg S (lift_max hr b h i k)
  have hb : (broadcastInDim S2x8x8192 ![] bcast_S_S2x8x8192 (constant (F := Ideal) S_ FTy.f32 4286578688#32) (ix3 b h i) : EReal) = ⊥ := by
    pointwise
    exact ofBits_ninf
  have hi : (constant (F := Ideal) S_ FTy.f32 (4286578688#32) (Shape.Idx.first h_S_) : EReal) = ⊥ := ofBits_ninf
  unfold rM
  rw [maximumf_apply, e, e2, hb, hi, max_ideal]
  refine (bot_sup_eq _).trans ?_
  exact fold_sup (fun k : Fin 8192 => (S (ix4 b h i k) : EReal))

theorem rE_apply (S : FVec Ideal S2x8x8192x8192 .f32) (M : FVec Ideal S2x8x8192 .f32) (b : Fin 2) (h : Fin 8) (i k : Fin 8192) :
    (rE S M (ix4 b h i k) : EReal) = Ideal.exp (S (ix4 b h i k) - M (ix3 b h i)) := by
  pointwise [rE]

theorem rP_apply (E : FVec Ideal S2x8x8192x8192 .f32) (b : Fin 2) (h : Fin 8) (i k : Fin 8192) :
    (rP E (ix4 b h i k) : EReal) = Ideal.div (E (ix4 b h i k)) (∑ x : Fin 8192, E (ix4 b h i x)) := by
  pointwise [rP]

theorem rO_apply (kv : FVec Ideal S2x8192x288 .f32) (P : FVec Ideal S2x8x8192x8192 .f32) (b : Fin 2) (i : Fin 8192) (h : Fin 8) (d : Fin 256) :
    (rO kv P (ix4 b i h d) : EReal) = ∑ x : Fin 8192, (kv (ix3 b x ⟨d.val, by omega⟩) * P (ix4 b h i x) : EReal) := by
  pointwise [rO]

theorem rR_apply (w : FVec Ideal S256x8x64 .f32) (O : FVec Ideal S2x8192x8x256 .f32) (i : Fin 16384) (n : Fin 512) :
    (rR w O (ix2 i n) : EReal) = ∑ x : Fin 256, (w (ix3 x ⟨n.val / 64, by omega⟩ ⟨n.val % 64, Nat.mod_lt _ (by decide)⟩)
      * O (ix4 ⟨i.val / 8192, by omega⟩ ⟨i.val % 8192, Nat.mod_lt _ (by decide)⟩ ⟨n.val / 64, by omega⟩ x) : EReal) := by
  pointwise [rR]

/-- The weighted sum of keys the reference forms is the average under the softmax weights. -/
theorem avg_apply (q : FVec Ideal S2x8192x8x256 .f32) (qr : FVec Ideal S2x8192x8x32 .f32) (kv : FVec Ideal S2x8192x288 .f32)
    (hq : Spec.AllReal _ q) (hqr : Spec.AllReal _ qr) (hkv : Spec.AllReal _ kv) (b : Fin 2) (i : Fin 8192) (h : Fin 8) (d : Fin 256) :
    (rO kv (rP (rE (rS q qr kv) (rM (rS q qr kv)))) (ix4 b i h d) : EReal)
      = ((Online.avg (Spec.score q qr kv b h i) (fun k => Spec.key kv b k d.val) (i.val + 1) : ℝ) : EReal) := by
  rw [← Online.softmax_avg (Spec.score q qr kv b h i) (fun k => Spec.key kv b k d.val) 8192 (i.val + 1) (by omega) (by omega)
    (fun k => rS q qr kv (ix4 b h i k)) (fun k => rS_apply q qr kv hq hqr hkv b h i k) _ rfl, rO_apply]
  refine Finset.sum_congr rfl fun k _ => ?_
  have hk : (kv (ix3 b k ⟨d.val, by omega⟩) : EReal) = ((Spec.key kv b k.val d.val : ℝ) : EReal) := by
    have : (⟨d.val % 288, Nat.mod_lt _ (by decide)⟩ : Fin 288) = ⟨d.val, by omega⟩ := Fin.ext (Nat.mod_eq_of_lt (by omega))
    rw [Spec.key, Spec.pos_val, this]; exact hkv _
  have hE : ∀ x : Fin 8192, (rE (rS q qr kv) (rM (rS q qr kv)) (ix4 b h i x) : EReal)
      = Ideal.exp (rS q qr kv (ix4 b h i x) - Finset.univ.sup fun k : Fin 8192 => (rS q qr kv (ix4 b h i k) : EReal)) := fun x => by
    rw [rE_apply, rM_apply]
  have hP : (rP (rE (rS q qr kv) (rM (rS q qr kv))) (ix4 b h i k) : EReal) = _ := (rP_apply _ b h i k).trans
    (congrArg₂ Ideal.div (hE k) (Finset.sum_congr rfl fun x _ => hE x))
  exact (congrArg₂ (fun x y : EReal => x * y) hk hP).trans (mul_comm _ _)

/-- The reference's result at an index. -/
theorem res_apply (m : (ℓ : Loc nD τ sig) → Buf (Elt Ideal) ℓ) (c : Dev nD)
    (hq : Spec.AllReal Spec.SQ (m ((c.tc : Thread nD τ).loc main_arg0))) (hqr : Spec.AllReal Spec.SR (m ((c.tc : Thread nD τ).loc main_arg1)))
    (hkv : Spec.AllReal Spec.SK (m ((c.tc : Thread nD τ).loc main_arg2))) (i : Fin 16384) (n : Fin 512) :
    (Value.res_main_v32 m c (ix2 i n) : EReal)
      = Spec.outv (m ((c.tc : Thread nD τ).loc main_arg0)) (m ((c.tc : Thread nD τ).loc main_arg1)) (m ((c.tc : Thread nD τ).loc main_arg2))
          (m ((c.tc : Thread nD τ).loc main_arg3)) ⟨i.val / 8192, by omega⟩ ⟨i.val % 8192, Nat.mod_lt _ (by decide)⟩ n := by
  rw [res_eq]
  refine (rR_apply _ _ i n).trans ?_
  unfold Spec.outv
  refine Finset.sum_congr rfl fun r _ => ?_
  exact congrArg (HMul.hMul (α := EReal) (β := EReal) _) (avg_apply _ _ _ hq hqr hkv _ _ _ r)

end Cert.MlaRefIdeal.Att

end
-- ==== Proof.Finite.lean ====
/-
  The condition on the arguments, read: every query and every key is a real number.
-/
module

public import proofs.«01_k».proof.Defs
public import proofs.«01_k».proof.Pre_finite
public import proofs.«01_k».proof.Proof.Spec
public import proofs.«01_k».proof.Proof.Gen.MlaIdeal
public import Idealize.ShloMosaic.Lib.Pointwise

@[expose] public section

noncomputable section

namespace Cert.Pre_finite

open Idealize.ShloMosaic

instance facts : Cert.Pre_finite.Facts where
  bcast_S_S2x8192x8x256 := by decide
  bcast_S_S2x8192x8x32 := by decide
  bcast_S_S2x8192x288 := by decide

theorem ofBits_pinf : (FloatOps.ofBits (F := Ideal) .f32 0x7F800000#32 : EReal) = ⊤ := by
  show Ideal.ofBits .f32 0x7F800000#32 = ⊤
  simp [Ideal.ofBits, Ideal.ieee]

theorem ofBits_ninf : (FloatOps.ofBits (F := Ideal) .f32 0xFF800000#32 : EReal) = ⊥ := by
  show Ideal.ofBits .f32 0xFF800000#32 = ⊥
  simp [Ideal.ofBits, Ideal.ieee]

/-- A value below the upper infinity and above the lower one is real. -/
theorem real_of_test {n : Shape} (x b1 b2 : FVec Ideal n .f32) (h1 : ∀ i, (b1 i : EReal) = ⊤) (h2 : ∀ i, (b2 i : EReal) = ⊥)
    (h : andi (cmpf .olt x b1) (cmpf .ogt x b2) = fun _ => 1#1) (i : n.Idx) : (x i : EReal) = (((x i : EReal).toReal : ℝ) : EReal) := by
  have hi := congrFun h i
  change BitVec.ofBool (decide ((x i : EReal) < b1 i)) &&& BitVec.ofBool (decide ((b2 i : EReal) < x i)) = 1#1 at hi
  rw [h1, h2] at hi
  refine (EReal.coe_toReal (fun e => ?_) (fun e => ?_)).symm
  · rw [e] at hi; simp at hi
  · rw [e] at hi; simp at hi

variable (x0 : FVec Ideal S2x8192x8x256 .f32) (x1 : FVec Ideal S2x8192x8x32 .f32) (x2 : FVec Ideal S2x8192x288 .f32) (x3 : FVec Ideal S256x8x64 .f32)

theorem real0 (h : (fn x0 x1 x2 x3).1 = fun _ => 1#1) : Spec.AllReal Spec.SQ x0 :=
  real_of_test x0 _ _ (fun _ => ofBits_pinf) (fun _ => ofBits_ninf) h

theorem real1 (h : (fn x0 x1 x2 x3).2.1 = fun _ => 1#1) : Spec.AllReal Spec.SR x1 :=
  real_of_test x1 _ _ (fun _ => ofBits_pinf) (fun _ => ofBits_ninf) h

theorem real2 (h : (fn x0 x1 x2 x3).2.2 = fun _ => 1#1) : Spec.AllReal Spec.SK x2 :=
  real_of_test x2 _ _ (fun _ => ofBits_pinf) (fun _ => ofBits_ninf) h

end Cert.Pre_finite

end
-- ==== Proof.Layer.lean ====
/-
  The layer's result at one position: the two branches' outputs, gated, projected, merged, projected again and added to
  the position's input.
-/
module

public import Idealize.ShloMosaic.Lib.Pointwise
public import Idealize.ShloMosaic.PureOps.Ideal

@[expose] public section

noncomputable section

namespace Cert.Layer

open Idealize.ShloMosaic

/-- The logistic function, at the exact reals. -/
def gate (x : EReal) : EReal := Ideal.div 1 (1 + Ideal.exp (-x))

theorem ofBits_one : Ideal.ofBits FTy.f32 1065353216#32 = 1 := by
  simp [Ideal.ofBits, Ideal.ieee]; rw [← EReal.coe_mul]; norm_num

theorem ofBits_zero : Ideal.ofBits FTy.f32 0#32 = 0 := by simp [Ideal.ofBits, Ideal.ieee]

/-- The function, as a program spells its constants. -/
theorem gate_eq (x : EReal) : Ideal.div (Ideal.ofBits FTy.f32 1065353216#32) (Ideal.ofBits FTy.f32 1065353216#32 + Ideal.exp (-x)) = gate x := by
  rw [ofBits_one]; rfl

/-- The prompt's rows and the sample's. -/
theorem rows_prompt : 16384 = 2 * 8192 := by decide
theorem rows_sample : 1024 = 128 * 8 := by decide

variable {B T : ℕ}

/-- A branch's output `o`, times its gate, projected to column `j`. -/
def branch (o : FVec Ideal ⟨4, ![B, T, 8, 64]⟩ .f32) (g : FVec Ideal ⟨3, ![B, T, 512]⟩ .f32) (w : FVec Ideal ⟨2, ![512, 1024]⟩ .f32)
    (b : Fin B) (t : Fin T) (j : Fin 1024) : EReal :=
  ∑ k : Fin 512, (o (ix4 b t ⟨k.val / 64, by omega⟩ ⟨k.val % 64, Nat.mod_lt _ (by decide)⟩) * (g (ix3 b t k) * gate (g (ix3 b t k)))) * w (ix2 k j)

/-- The two branches, each under its merge gate, added. -/
def merged (om os : FVec Ideal ⟨4, ![B, T, 8, 64]⟩ .f32) (gm gs : FVec Ideal ⟨3, ![B, T, 512]⟩ .f32) (mm ms : FVec Ideal ⟨3, ![B, T, 1024]⟩ .f32)
    (wm ws : FVec Ideal ⟨2, ![512, 1024]⟩ .f32) (b : Fin B) (t : Fin T) (j : Fin 1024) : EReal :=
  gate (mm (ix3 b t j)) * branch om gm wm b t j + gate (ms (ix3 b t j)) * branch os gs ws b t j

/-- The layer's result. -/
def layer (x : FVec Ideal ⟨3, ![B, T, 1024]⟩ .f32) (om os : FVec Ideal ⟨4, ![B, T, 8, 64]⟩ .f32) (gm gs : FVec Ideal ⟨3, ![B, T, 512]⟩ .f32)
    (mm ms : FVec Ideal ⟨3, ![B, T, 1024]⟩ .f32) (wm ws : FVec Ideal ⟨2, ![512, 1024]⟩ .f32) (wo : FVec Ideal ⟨2, ![1024, 1024]⟩ .f32)
    (b : Fin B) (t : Fin T) (n : Fin 1024) : EReal :=
  x (ix3 b t n) + ∑ j : Fin 1024, merged om os gm gs mm ms wm ws b t j * wo (ix2 j n)

/-- The result as an array of rows, one for each position of each sequence. -/
def rows (R : ℕ) (hR : R = B * T) (x : FVec Ideal ⟨3, ![B, T, 1024]⟩ .f32) (om os : FVec Ideal ⟨4, ![B, T, 8, 64]⟩ .f32) (gm gs : FVec Ideal ⟨3, ![B, T, 512]⟩ .f32)
    (mm ms : FVec Ideal ⟨3, ![B, T, 1024]⟩ .f32) (wm ws : FVec Ideal ⟨2, ![512, 1024]⟩ .f32) (wo : FVec Ideal ⟨2, ![1024, 1024]⟩ .f32) : FVec Ideal ⟨2, ![R, 1024]⟩ .f32 :=
  fun i => layer x om os gm gs mm ms wm ws wo
    ⟨(i 0).val / T, Nat.div_lt_of_lt_mul (Nat.mul_comm B T ▸ hR ▸ (i 0).isLt)⟩
    ⟨(i 0).val % T, Nat.mod_lt _ (Nat.pos_of_ne_zero fun h => by have := (i 0).isLt; subst h; subst hR; simp at this)⟩ (i 1)

/-- A row of the layer's result, from the row's entries: what a block of the call computes. -/
theorem layer_of_row (x : FVec Ideal ⟨3, ![B, T, 1024]⟩ .f32) (om os : FVec Ideal ⟨4, ![B, T, 8, 64]⟩ .f32) (gm gs : FVec Ideal ⟨3, ![B, T, 512]⟩ .f32)
    (mm ms : FVec Ideal ⟨3, ![B, T, 1024]⟩ .f32) (wm ws : FVec Ideal ⟨2, ![512, 1024]⟩ .f32) (wo : FVec Ideal ⟨2, ![1024, 1024]⟩ .f32)
    (b : Fin B) (t : Fin T) (n : Fin 1024) (x' : EReal) (om' os' gm' gs' : Fin 512 → EReal) (mm' ms' : Fin 1024 → EReal) (wm' ws' : Fin 512 → Fin 1024 → EReal)
    (wo' : Fin 1024 → EReal) (hx : x' = x (ix3 b t n))
    (hom : ∀ k : Fin 512, om' k = om (ix4 b t ⟨k.val / 64, by omega⟩ ⟨k.val % 64, Nat.mod_lt _ (by decide)⟩))
    (hos : ∀ k : Fin 512, os' k = os (ix4 b t ⟨k.val / 64, by omega⟩ ⟨k.val % 64, Nat.mod_lt _ (by decide)⟩))
    (hgm : ∀ k, gm' k = gm (ix3 b t k) * gate (gm (ix3 b t k))) (hgs : ∀ k, gs' k = gs (ix3 b t k) * gate (gs (ix3 b t k)))
    (hmm : ∀ j, mm' j = gate (mm (ix3 b t j))) (hms : ∀ j, ms' j = gate (ms (ix3 b t j)))
    (hwm : ∀ k j, wm' k j = wm (ix2 k j)) (hws : ∀ k j, ws' k j = ws (ix2 k j)) (hwo : ∀ j, wo' j = wo (ix2 j n)) :
    x' + ∑ j, (mm' j * (∑ k, om' k * gm' k * wm' k j) + ms' j * (∑ k, os' k * gs' k * ws' k j)) * wo' j
      = layer x om os gm gs mm ms wm ws wo b t n := by
  unfold layer merged branch
  rw [hx]
  simp only [hom, hos, hgm, hgs, hmm, hms, hwm, hws, hwo]

/-- An index of a weight, read whole. -/
theorem idx_whole {M N : ℕ} (i : Shape.Idx ⟨2, ![M, N]⟩) (k : Fin M) (n : Fin N) (p q : ℕ) (h0 : (i 0).val = p * M + 1 * k.val)
    (h1 : (i 1).val = q * N + 1 * n.val) (hp : p = 0) (hq : q = 0) : i = ix2 k n := by
  subst hp hq
  funext x
  match x with
  | ⟨0, _⟩ => exact Fin.ext (h0.trans (by show _ = k.val; omega))
  | ⟨1, _⟩ => exact Fin.ext (h1.trans (by show _ = n.val; omega))

/-- A rectangle's zero offsets. -/
theorem hz : (![0, 0] : Fin 2 → Nat) = fun _ => 0 := funext fun a => by fin_cases a <;> rfl

end Cert.Layer

end
-- ==== Proof.LayerPrompt.lean ====
/-
  The prompt's last call, at the exact reals: the array it leaves and its reference's are the layer's result, row by row.
-/
module

public import proofs.«01_k».proof.Proof.Gen.FinPIdeal.Value
public import proofs.«01_k».proof.Proof.Gen.FinPRefIdeal.Run
public import proofs.«01_k».proof.Proof.Layer
public import Idealize.ShloMosaic.Lib.StableHlo.ReadAt

@[expose] public section

set_option maxHeartbeats 1000000
set_option maxRecDepth 100000

noncomputable section

namespace Cert.FinPIdeal.Rows

open Idealize.ShloMosaic Idealize.ShloMosaic.TcCoe Idealize.SL.Sem Cert.FinPIdeal Cert.FinPIdeal.Gen
open Idealize.ShloMosaic.Pipeline (Dat Cfg Window)
open Cert.Layer (gate)

/-- What the body writes for a block of rows, at one index. -/
theorem pay_apply (v0 : Vec Ideal S512x512 .f32) (v2 : Vec Ideal S512x512 .bf16) (v7 : Vec Ideal S512x512 .f32) (v9 : Vec Ideal S512x512 .bf16)
    (v14 v16 v21 v23 : Vec Ideal S512x1024 .bf16) (v29 : Vec Ideal S512x1024 .f32) (v32 : Vec Ideal S1024x1024 .bf16) (r : Fin 512) (n : Fin 1024) :
    (k0_pay1 (F := Ideal) v0 v2 v7 v9 v14 v16 v21 v23 v29 v32 (ix2 r n) : EReal) = v29 (ix2 r n) + ∑ j : Fin 1024, (v14 (ix2 r j) * (∑ k : Fin 512, v0 (ix2 r k) * v2 (ix2 r k) * v16 (ix2 k j) : EReal) + v21 (ix2 r j) * (∑ k : Fin 512, v7 (ix2 r k) * v9 (ix2 r k) * v23 (ix2 k j) : EReal)) * v32 (ix2 j n) := by
  pointwise [k0_pay1]

variable (m : (ℓ : Loc nD τ sig) → Buf (Elt Ideal) ℓ) (ρ : Dev nD → PrngReg) (c : Dev nD)

abbrev ax : FVec Ideal S2x8192x1024 .f32 := m ((c.tc : Thread nD τ).loc main_arg0)
abbrev aom : FVec Ideal S2x8192x8x64 .f32 := m ((c.tc : Thread nD τ).loc main_arg1)
abbrev aos : FVec Ideal S2x8192x8x64 .f32 := m ((c.tc : Thread nD τ).loc main_arg2)
abbrev agm : FVec Ideal S2x8192x512 .f32 := m ((c.tc : Thread nD τ).loc main_arg3)
abbrev ags : FVec Ideal S2x8192x512 .f32 := m ((c.tc : Thread nD τ).loc main_arg4)
abbrev amm : FVec Ideal S2x8192x1024 .f32 := m ((c.tc : Thread nD τ).loc main_arg5)
abbrev ams : FVec Ideal S2x8192x1024 .f32 := m ((c.tc : Thread nD τ).loc main_arg6)
abbrev awm : FVec Ideal S512x1024 .f32 := m ((c.tc : Thread nD τ).loc main_arg7)
abbrev aws : FVec Ideal S512x1024 .f32 := m ((c.tc : Thread nD τ).loc main_arg8)
abbrev awo : FVec Ideal S1024x1024 .f32 := m ((c.tc : Thread nD τ).loc main_arg9)

/-- The array left: row `i` is the layer's result at sequence `i / 8192`, position `i % 8192`. -/
def result : Buf (Elt Ideal) ((c.tc : Thread nD τ).loc main_v40) :=
  Layer.rows 16384 Layer.rows_prompt (ax m c) (aom m c) (aos m c) (agm m c) (ags m c) (amm m c) (ams m c) (awm m c) (aws m c) (awo m c)

/-! ## The arrays the call reads -/

theorem V2 (i : Fin 16384) (n : Fin 1024) :
    (V m c main_v2 (ix2 i n) : EReal) = ax m c (ix3 ⟨i.val / 8192, by omega⟩ ⟨i.val % 8192, by omega⟩ n) := by
  unfold V
  after_reads_at

theorem V3 (i : Fin 16384) (k : Fin 512) :
    (V m c main_v3 (ix2 i k) : EReal) = aom m c (ix4 ⟨i.val / 8192, by omega⟩ ⟨i.val % 8192, by omega⟩ ⟨k.val / 64, by omega⟩ ⟨k.val % 64, by omega⟩) := by
  unfold V
  after_reads_at

theorem V4 (i : Fin 16384) (k : Fin 512) :
    (V m c main_v4 (ix2 i k) : EReal) = aos m c (ix4 ⟨i.val / 8192, by omega⟩ ⟨i.val % 8192, by omega⟩ ⟨k.val / 64, by omega⟩ ⟨k.val % 64, by omega⟩) := by
  unfold V
  after_reads_at

theorem V12 (i : Fin 16384) (k : Fin 512) :
    (V m c main_v12 (ix2 i k) : EReal) = agm m c (ix3 ⟨i.val / 8192, by omega⟩ ⟨i.val % 8192, by omega⟩ k)
      * gate (agm m c (ix3 ⟨i.val / 8192, by omega⟩ ⟨i.val % 8192, by omega⟩ k)) := by
  unfold V
  after_reads_at
  rfl

theorem V20 (i : Fin 16384) (k : Fin 512) :
    (V m c main_v20 (ix2 i k) : EReal) = ags m c (ix3 ⟨i.val / 8192, by omega⟩ ⟨i.val % 8192, by omega⟩ k)
      * gate (ags m c (ix3 ⟨i.val / 8192, by omega⟩ ⟨i.val % 8192, by omega⟩ k)) := by
  unfold V
  after_reads_at
  rfl

theorem V28 (i : Fin 16384) (j : Fin 1024) :
    (V m c main_v28 (ix2 i j) : EReal) = gate (amm m c (ix3 ⟨i.val / 8192, by omega⟩ ⟨i.val % 8192, by omega⟩ j)) := by
  unfold V
  after_reads_at
  rfl

theorem V36 (i : Fin 16384) (j : Fin 1024) :
    (V m c main_v36 (ix2 i j) : EReal) = gate (ams m c (ix3 ⟨i.val / 8192, by omega⟩ ⟨i.val % 8192, by omega⟩ j)) := by
  unfold V
  after_reads_at
  rfl

theorem V37 (k : Fin 512) (j : Fin 1024) : (V m c main_v37 (ix2 k j) : EReal) = awm m c (ix2 k j) := by
  unfold V
  after_reads_at

theorem V38 (k : Fin 512) (j : Fin 1024) : (V m c main_v38 (ix2 k j) : EReal) = aws m c (ix2 k j) := by
  unfold V
  after_reads_at

theorem V39 (j n : Fin 1024) : (V m c main_v39 (ix2 j n) : EReal) = awo m c (ix2 j n) := by
  unfold V
  after_reads_at

/-! ## The blocks a point reads -/

theorem at0 : ∀ t : Fin grid0.N, win0_0.index t 0 = t.val ∧ win0_0.index t 1 = 0 := by decide +kernel
theorem at1 : ∀ t : Fin grid0.N, win0_1.index t 0 = t.val ∧ win0_1.index t 1 = 0 := by decide +kernel
theorem at2 : ∀ t : Fin grid0.N, win0_2.index t 0 = t.val ∧ win0_2.index t 1 = 0 := by decide +kernel
theorem at3 : ∀ t : Fin grid0.N, win0_3.index t 0 = t.val ∧ win0_3.index t 1 = 0 := by decide +kernel
theorem at4 : ∀ t : Fin grid0.N, win0_4.index t 0 = t.val ∧ win0_4.index t 1 = 0 := by decide +kernel
theorem at5 : ∀ t : Fin grid0.N, win0_5.index t 0 = t.val ∧ win0_5.index t 1 = 0 := by decide +kernel
theorem at6 : ∀ t : Fin grid0.N, win0_6.index t 0 = t.val ∧ win0_6.index t 1 = 0 := by decide +kernel
theorem at7 : ∀ t : Fin grid0.N, win0_7.index t 0 = 0 ∧ win0_7.index t 1 = 0 := by decide +kernel
theorem at8 : ∀ t : Fin grid0.N, win0_8.index t 0 = 0 ∧ win0_8.index t 1 = 0 := by decide +kernel
theorem at9 : ∀ t : Fin grid0.N, win0_9.index t 0 = 0 ∧ win0_9.index t 1 = 0 := by decide +kernel
theorem at10 : ∀ t : Fin grid0.N, win0_10.index t 0 = t.val ∧ win0_10.index t 1 = 0 := by decide +kernel

variable (t : Fin cfg0.N)

theorem row_lt (a : Fin 512) : 512 * t.val + a.val < 16384 := by
  have hN : t.val < 32 := t.isLt.trans_eq N_0
  omega

/-- The array's row that a point's row `a` is. -/
def row (a : Fin 512) : Fin 16384 := ⟨512 * t.val + a.val, row_lt t a⟩

/-- An index of an array of rows is that row's, once its two coordinates are. -/
theorem idx_row {N : ℕ} (i : Shape.Idx ⟨2, ![16384, N]⟩) (a : Fin 512) (n : Fin N) (p q : ℕ) (h0 : (i 0).val = p * 512 + 1 * a.val)
    (h1 : (i 1).val = q * N + 1 * n.val) (hp : p = t.val) (hq : q = 0) : i = ix2 (row t a) n := by
  subst hp hq
  funext x
  match x with
  | ⟨0, _⟩ => exact Fin.ext (h0.trans (by show _ = 512 * t.val + a.val; omega))
  | ⟨1, _⟩ => exact Fin.ext (h1.trans (by show _ = n.val; omega))

theorem blk0 (a : Fin 512) (n : Fin 1024) : ((iblk m c 0 t : Vec Ideal S512x1024 .f32) (ix2 a n) : EReal) = V m c main_v2 (ix2 (row t a) n) := by
  unfold iblk
  rw [View.read_apply]
  exact congrArg (V m c main_v2) (idx_row t _ a n _ _ rfl rfl (at0 t).1 (at0 t).2)

theorem blk1 (a : Fin 512) (n : Fin 512) : ((iblk m c 1 t : Vec Ideal S512x512 .f32) (ix2 a n) : EReal) = V m c main_v3 (ix2 (row t a) n) := by
  unfold iblk
  rw [View.read_apply]
  exact congrArg (V m c main_v3) (idx_row t _ a n _ _ rfl rfl (at1 t).1 (at1 t).2)

theorem blk2 (a : Fin 512) (n : Fin 512) : ((iblk m c 2 t : Vec Ideal S512x512 .f32) (ix2 a n) : EReal) = V m c main_v4 (ix2 (row t a) n) := by
  unfold iblk
  rw [View.read_apply]
  exact congrArg (V m c main_v4) (idx_row t _ a n _ _ rfl rfl (at2 t).1 (at2 t).2)

theorem blk3 (a : Fin 512) (n : Fin 512) : ((iblk m c 3 t : Vec Ideal S512x512 .bf16) (ix2 a n) : EReal) = V m c main_v12 (ix2 (row t a) n) := by
  unfold iblk
  rw [View.read_apply]
  exact congrArg (V m c main_v12) (idx_row t _ a n _ _ rfl rfl (at3 t).1 (at3 t).2)

theorem blk4 (a : Fin 512) (n : Fin 512) : ((iblk m c 4 t : Vec Ideal S512x512 .bf16) (ix2 a n) : EReal) = V m c main_v20 (ix2 (row t a) n) := by
  unfold iblk
  rw [View.read_apply]
  exact congrArg (V m c main_v20) (idx_row t _ a n _ _ rfl rfl (at4 t).1 (at4 t).2)

theorem blk5 (a : Fin 512) (n : Fin 1024) : ((iblk m c 5 t : Vec Ideal S512x1024 .bf16) (ix2 a n) : EReal) = V m c main_v28 (ix2 (row t a) n) := by
  unfold iblk
  rw [View.read_apply]
  exact congrArg (V m c main_v28) (idx_row t _ a n _ _ rfl rfl (at5 t).1 (at5 t).2)

theorem blk6 (a : Fin 512) (n : Fin 1024) : ((iblk m c 6 t : Vec Ideal S512x1024 .bf16) (ix2 a n) : EReal) = V m c main_v36 (ix2 (row t a) n) := by
  unfold iblk
  rw [View.read_apply]
  exact congrArg (V m c main_v36) (idx_row t _ a n _ _ rfl rfl (at6 t).1 (at6 t).2)

theorem blk7 (k : Fin 512) (n : Fin 1024) : ((iblk m c 7 t : Vec Ideal S512x1024 .bf16) (ix2 k n) : EReal) = V m c main_v37 (ix2 k n) := by
  unfold iblk
  rw [View.read_apply]
  exact congrArg (V m c main_v37) (Layer.idx_whole _ k n _ _ rfl rfl (at7 t).1 (at7 t).2)

theorem blk8 (k : Fin 512) (n : Fin 1024) : ((iblk m c 8 t : Vec Ideal S512x1024 .bf16) (ix2 k n) : EReal) = V m c main_v38 (ix2 k n) := by
  unfold iblk
  rw [View.read_apply]
  exact congrArg (V m c main_v38) (Layer.idx_whole _ k n _ _ rfl rfl (at8 t).1 (at8 t).2)

theorem blk9 (k : Fin 1024) (n : Fin 1024) : ((iblk m c 9 t : Vec Ideal S1024x1024 .bf16) (ix2 k n) : EReal) = V m c main_v39 (ix2 k n) := by
  unfold iblk
  rw [View.read_apply]
  exact congrArg (V m c main_v39) (Layer.idx_whole _ k n _ _ rfl rfl (at9 t).1 (at9 t).2)

/-! ## The block a point leaves, and the array -/

/-- The block point `t` leaves, at one index: the layer's result in that row. -/
theorem out_apply (a : Fin 512) (n : Fin 1024) :
    ((out0_10 (iblk m c 0 t) (iblk m c 1 t) (iblk m c 2 t) (iblk m c 3 t) (iblk m c 4 t) (iblk m c 5 t) (iblk m c 6 t) (iblk m c 7 t) (iblk m c 8 t)
      (iblk m c 9 t) : Vec Ideal S512x1024 .f32) (ix2 a n) : EReal) = result m c (ix2 (row t a) n) := by
  unfold out0_10
  rw [View.canon_unit_zero Layer.hz]
  simp only [View.ld_unit_zero (S := S512x512) Layer.hz, View.ld_unit_zero (S := S512x1024) Layer.hz, View.ld_unit_zero (S := S1024x1024) Layer.hz]
  refine (pay_apply _ _ _ _ _ _ _ _ _ _ a n).trans ?_
  exact Layer.layer_of_row (ax m c) (aom m c) (aos m c) (agm m c) (ags m c) (amm m c) (ams m c) (awm m c) (aws m c) (awo m c) _ _ n
    _ _ _ _ _ _ _ (fun k j => _) (fun k j => _) _
    ((blk0 m c t a n).trans (V2 m c _ n)) (fun k => (blk1 m c t a k).trans (V3 m c _ k)) (fun k => (blk2 m c t a k).trans (V4 m c _ k))
    (fun k => (blk3 m c t a k).trans (V12 m c _ k)) (fun k => (blk4 m c t a k).trans (V20 m c _ k))
    (fun j => (blk5 m c t a j).trans (V28 m c _ j)) (fun j => (blk6 m c t a j).trans (V36 m c _ j))
    (fun k j => (blk7 m c t k j).trans (V37 m c k j)) (fun k j => (blk8 m c t k j).trans (V38 m c k j))
    (fun j => (blk9 m c t j n).trans (V39 m c j n))

theorem flushed_eq : (dats m 0 c).flushed 10 t = ((cfg0.win 10).blk t).view.read (Elt Ideal) (result m c) := by
  rw [Value.flushed10]
  funext j
  rw [View.read_apply]
  have h0 : (j 0).val < 512 := (j 0).isLt
  have h1 : (j 1).val < 1024 := (j 1).isLt
  refine Eq.trans (show _ = (out0_10 (iblk m c 0 t) (iblk m c 1 t) (iblk m c 2 t) (iblk m c 3 t) (iblk m c 4 t) (iblk m c 5 t) (iblk m c 6 t) (iblk m c 7 t)
    (iblk m c 8 t) (iblk m c 9 t) : Vec Ideal S512x1024 .f32) (ix2 ⟨(j 0).val, h0⟩ ⟨(j 1).val, h1⟩) from congrArg (out0_10 (iblk m c 0 t) (iblk m c 1 t)
    (iblk m c 2 t) (iblk m c 3 t) (iblk m c 4 t) (iblk m c 5 t) (iblk m c 6 t) (iblk m c 7 t) (iblk m c 8 t) (iblk m c 9 t)) (funext fun x => Fin.ext ?_)) ?_
  · match x with
    | ⟨0, _⟩ => rfl
    | ⟨1, _⟩ => rfl
  refine (out_apply m c t _ _).trans ?_
  exact congrArg (result m c) (idx_row t _ ⟨(j 0).val, h0⟩ ⟨(j 1).val, h1⟩ _ _ rfl rfl (at10 t).1 (at10 t).2).symm

theorem final_eq : (dats m 0 c).arrAt 10 cfg0.N = result m c :=
  (dats m 0 c).arrAt_eq_of_cover 10 (result m c) (fun t _ => flushed_eq m c t) fun i => by
    have h0 : (i 0).val < 16384 := (i 0).isLt
    have h1 : (i 1).val < 1024 := (i 1).isLt
    have ht : (i 0).val / 512 < cfg0.N := lt_of_lt_of_eq (by omega) N_0.symm
    refine ⟨⟨(i 0).val / 512, ht⟩, flush0_10 _, ?_⟩
    show i ∈ ((View.whole main_v40).slice (win0_10.rect ⟨(i 0).val / 512, ht⟩)).set
    rw [View.set_slice_whole, Rect.mem_set_unit]
    intro a
    have e0 := (at10 ⟨_, ht⟩).1
    have e1 := (at10 ⟨_, ht⟩).2
    match a with
    | ⟨0, _⟩ =>
      show win0_10.index _ 0 * 512 ≤ (i 0).val ∧ (i 0).val < win0_10.index _ 0 * 512 + 512
      rw [e0]; dsimp only; omega
    | ⟨1, _⟩ =>
      show win0_10.index _ 1 * 1024 ≤ (i 1).val ∧ (i 1).val < win0_10.index _ 1 * 1024 + 1024
      rw [e1]; omega

theorem run_value : θ_run defs (onTc (τ := τ) (main (F := Ideal))) ⟨m, fun _ => 0, ρ⟩ fun r => ∀ c : Dev nD,
      r.2.mem ((c : Thread nD τ).loc main_v40) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (final_eq m c), (h c).2⟩) (Value.run_blocks m ρ)

end Cert.FinPIdeal.Rows

namespace Cert.FinPRefIdeal.Rows

open Idealize.ShloMosaic Idealize.ShloMosaic.TcCoe Cert.FinPRefIdeal Cert.FinPRefIdeal.Gen

/-- The reference's array is the layer's result, row by row. -/
theorem ref_eq (x : FVec Ideal S2x8192x1024 .f32) (om os : FVec Ideal S2x8192x8x64 .f32) (gm gs : FVec Ideal S2x8192x512 .f32)
    (mm ms : FVec Ideal S2x8192x1024 .f32) (wm ws : FVec Ideal S512x1024 .f32) (wo : FVec Ideal S1024x1024 .f32) :
    (shapeCast S16384x1024 (addf x (Host.dotGeneral dot_S2x8192x1024_S1024x1024_S2x8192x1024_2_0_01_1_n_n none (addf (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf mm)))) (Host.dotGeneral dot_S2x8192x512_S512x1024_S2x8192x1024_2_0_01_1_n_n none (mulf (shapeCast S2x8192x512 om shapeCasts_S2x8192x8x64_S2x8192x512) (mulf gm (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf gm)))))) wm)) (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf ms)))) (Host.dotGeneral dot_S2x8192x512_S512x1024_S2x8192x1024_2_0_01_1_n_n none (mulf (shapeCast S2x8192x512 os shapeCasts_S2x8192x8x64_S2x8192x512) (mulf gs (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf gs)))))) ws))) wo)) shapeCasts_S2x8192x1024_S16384x1024 : FVec Ideal S16384x1024 .f32) = Layer.rows 16384 Layer.rows_prompt x om os gm gs mm ms wm ws wo := by
  funext i
  have hi : i = ix2 (i 0) (i 1) := funext fun x => by match x with | ⟨0, _⟩ => rfl | ⟨1, _⟩ => rfl
  rw [hi]
  generalize (i 0 : Fin 16384) = r
  generalize (i 1 : Fin 1024) = n
  pointwise []
  rfl

end Cert.FinPRefIdeal.Rows

end
-- ==== Proof.LayerSample.lean ====
/-
  The sample's last call, at the exact reals: the array it leaves and its reference's are the layer's result, row by row.
-/
module

public import proofs.«01_k».proof.Proof.Gen.FinSIdeal.Value
public import proofs.«01_k».proof.Proof.Gen.FinSRefIdeal.Run
public import proofs.«01_k».proof.Proof.Layer
public import Idealize.ShloMosaic.Lib.StableHlo.ReadAt

@[expose] public section

set_option maxHeartbeats 1000000
set_option maxRecDepth 100000

noncomputable section

namespace Cert.FinSIdeal.Rows

open Idealize.ShloMosaic Idealize.ShloMosaic.TcCoe Idealize.SL.Sem Cert.FinSIdeal Cert.FinSIdeal.Gen
open Idealize.ShloMosaic.Pipeline (Dat Cfg Window)
open Cert.Layer (gate)

/-- What the body writes for a block of rows, at one index. -/
theorem pay_apply (v0 : Vec Ideal S256x512 .f32) (v2 : Vec Ideal S256x512 .bf16) (v7 : Vec Ideal S256x512 .f32) (v9 : Vec Ideal S256x512 .bf16)
    (v14 v21 : Vec Ideal S256x1024 .bf16) (v16 v23 : Vec Ideal S512x1024 .bf16) (v29 : Vec Ideal S256x1024 .f32) (v32 : Vec Ideal S1024x1024 .bf16) (r : Fin 256) (n : Fin 1024) :
    (k0_pay1 (F := Ideal) v0 v2 v7 v9 v14 v16 v21 v23 v29 v32 (ix2 r n) : EReal) = v29 (ix2 r n) + ∑ j : Fin 1024, (v14 (ix2 r j) * (∑ k : Fin 512, v0 (ix2 r k) * v2 (ix2 r k) * v16 (ix2 k j) : EReal) + v21 (ix2 r j) * (∑ k : Fin 512, v7 (ix2 r k) * v9 (ix2 r k) * v23 (ix2 k j) : EReal)) * v32 (ix2 j n) := by
  pointwise [k0_pay1]

variable (m : (ℓ : Loc nD τ sig) → Buf (Elt Ideal) ℓ) (ρ : Dev nD → PrngReg) (c : Dev nD)

abbrev ax : FVec Ideal S128x8x1024 .f32 := m ((c.tc : Thread nD τ).loc main_arg0)
abbrev aom : FVec Ideal S128x8x8x64 .f32 := m ((c.tc : Thread nD τ).loc main_arg1)
abbrev aos : FVec Ideal S128x8x8x64 .f32 := m ((c.tc : Thread nD τ).loc main_arg2)
abbrev agm : FVec Ideal S128x8x512 .f32 := m ((c.tc : Thread nD τ).loc main_arg3)
abbrev ags : FVec Ideal S128x8x512 .f32 := m ((c.tc : Thread nD τ).loc main_arg4)
abbrev amm : FVec Ideal S128x8x1024 .f32 := m ((c.tc : Thread nD τ).loc main_arg5)
abbrev ams : FVec Ideal S128x8x1024 .f32 := m ((c.tc : Thread nD τ).loc main_arg6)
abbrev awm : FVec Ideal S512x1024 .f32 := m ((c.tc : Thread nD τ).loc main_arg7)
abbrev aws : FVec Ideal S512x1024 .f32 := m ((c.tc : Thread nD τ).loc main_arg8)
abbrev awo : FVec Ideal S1024x1024 .f32 := m ((c.tc : Thread nD τ).loc main_arg9)

/-- The array left: row `i` is the layer's result at sequence `i / 8`, position `i % 8`. -/
def result : Buf (Elt Ideal) ((c.tc : Thread nD τ).loc main_v40) :=
  Layer.rows 1024 Layer.rows_sample (ax m c) (aom m c) (aos m c) (agm m c) (ags m c) (amm m c) (ams m c) (awm m c) (aws m c) (awo m c)

/-! ## The arrays the call reads -/

theorem V2 (i : Fin 1024) (n : Fin 1024) :
    (V m c main_v2 (ix2 i n) : EReal) = ax m c (ix3 ⟨i.val / 8, by omega⟩ ⟨i.val % 8, by omega⟩ n) := by
  unfold V
  after_reads_at

theorem V3 (i : Fin 1024) (k : Fin 512) :
    (V m c main_v3 (ix2 i k) : EReal) = aom m c (ix4 ⟨i.val / 8, by omega⟩ ⟨i.val % 8, by omega⟩ ⟨k.val / 64, by omega⟩ ⟨k.val % 64, by omega⟩) := by
  unfold V
  after_reads_at

theorem V4 (i : Fin 1024) (k : Fin 512) :
    (V m c main_v4 (ix2 i k) : EReal) = aos m c (ix4 ⟨i.val / 8, by omega⟩ ⟨i.val % 8, by omega⟩ ⟨k.val / 64, by omega⟩ ⟨k.val % 64, by omega⟩) := by
  unfold V
  after_reads_at

theorem V12 (i : Fin 1024) (k : Fin 512) :
    (V m c main_v12 (ix2 i k) : EReal) = agm m c (ix3 ⟨i.val / 8, by omega⟩ ⟨i.val % 8, by omega⟩ k)
      * gate (agm m c (ix3 ⟨i.val / 8, by omega⟩ ⟨i.val % 8, by omega⟩ k)) := by
  unfold V
  after_reads_at
  rfl

theorem V20 (i : Fin 1024) (k : Fin 512) :
    (V m c main_v20 (ix2 i k) : EReal) = ags m c (ix3 ⟨i.val / 8, by omega⟩ ⟨i.val % 8, by omega⟩ k)
      * gate (ags m c (ix3 ⟨i.val / 8, by omega⟩ ⟨i.val % 8, by omega⟩ k)) := by
  unfold V
  after_reads_at
  rfl

theorem V28 (i : Fin 1024) (j : Fin 1024) :
    (V m c main_v28 (ix2 i j) : EReal) = gate (amm m c (ix3 ⟨i.val / 8, by omega⟩ ⟨i.val % 8, by omega⟩ j)) := by
  unfold V
  after_reads_at
  rfl

theorem V36 (i : Fin 1024) (j : Fin 1024) :
    (V m c main_v36 (ix2 i j) : EReal) = gate (ams m c (ix3 ⟨i.val / 8, by omega⟩ ⟨i.val % 8, by omega⟩ j)) := by
  unfold V
  after_reads_at
  rfl

theorem V37 (k : Fin 512) (j : Fin 1024) : (V m c main_v37 (ix2 k j) : EReal) = awm m c (ix2 k j) := by
  unfold V
  after_reads_at

theorem V38 (k : Fin 512) (j : Fin 1024) : (V m c main_v38 (ix2 k j) : EReal) = aws m c (ix2 k j) := by
  unfold V
  after_reads_at

theorem V39 (j n : Fin 1024) : (V m c main_v39 (ix2 j n) : EReal) = awo m c (ix2 j n) := by
  unfold V
  after_reads_at

/-! ## The blocks a point reads -/

theorem at0 : ∀ t : Fin grid0.N, win0_0.index t 0 = t.val ∧ win0_0.index t 1 = 0 := by decide +kernel
theorem at1 : ∀ t : Fin grid0.N, win0_1.index t 0 = t.val ∧ win0_1.index t 1 = 0 := by decide +kernel
theorem at2 : ∀ t : Fin grid0.N, win0_2.index t 0 = t.val ∧ win0_2.index t 1 = 0 := by decide +kernel
theorem at3 : ∀ t : Fin grid0.N, win0_3.index t 0 = t.val ∧ win0_3.index t 1 = 0 := by decide +kernel
theorem at4 : ∀ t : Fin grid0.N, win0_4.index t 0 = t.val ∧ win0_4.index t 1 = 0 := by decide +kernel
theorem at5 : ∀ t : Fin grid0.N, win0_5.index t 0 = t.val ∧ win0_5.index t 1 = 0 := by decide +kernel
theorem at6 : ∀ t : Fin grid0.N, win0_6.index t 0 = t.val ∧ win0_6.index t 1 = 0 := by decide +kernel
theorem at7 : ∀ t : Fin grid0.N, win0_7.index t 0 = 0 ∧ win0_7.index t 1 = 0 := by decide +kernel
theorem at8 : ∀ t : Fin grid0.N, win0_8.index t 0 = 0 ∧ win0_8.index t 1 = 0 := by decide +kernel
theorem at9 : ∀ t : Fin grid0.N, win0_9.index t 0 = 0 ∧ win0_9.index t 1 = 0 := by decide +kernel
theorem at10 : ∀ t : Fin grid0.N, win0_10.index t 0 = t.val ∧ win0_10.index t 1 = 0 := by decide +kernel

variable (t : Fin cfg0.N)

theorem row_lt (a : Fin 256) : 256 * t.val + a.val < 1024 := by
  have hN : t.val < 4 := t.isLt.trans_eq N_0
  omega

/-- The array's row that a point's row `a` is. -/
def row (a : Fin 256) : Fin 1024 := ⟨256 * t.val + a.val, row_lt t a⟩

/-- An index of an array of rows is that row's, once its two coordinates are. -/
theorem idx_row {N : ℕ} (i : Shape.Idx ⟨2, ![1024, N]⟩) (a : Fin 256) (n : Fin N) (p q : ℕ) (h0 : (i 0).val = p * 256 + 1 * a.val)
    (h1 : (i 1).val = q * N + 1 * n.val) (hp : p = t.val) (hq : q = 0) : i = ix2 (row t a) n := by
  subst hp hq
  funext x
  match x with
  | ⟨0, _⟩ => exact Fin.ext (h0.trans (by show _ = 256 * t.val + a.val; omega))
  | ⟨1, _⟩ => exact Fin.ext (h1.trans (by show _ = n.val; omega))

theorem blk0 (a : Fin 256) (n : Fin 1024) : ((iblk m c 0 t : Vec Ideal S256x1024 .f32) (ix2 a n) : EReal) = V m c main_v2 (ix2 (row t a) n) := by
  unfold iblk
  rw [View.read_apply]
  exact congrArg (V m c main_v2) (idx_row t _ a n _ _ rfl rfl (at0 t).1 (at0 t).2)

theorem blk1 (a : Fin 256) (n : Fin 512) : ((iblk m c 1 t : Vec Ideal S256x512 .f32) (ix2 a n) : EReal) = V m c main_v3 (ix2 (row t a) n) := by
  unfold iblk
  rw [View.read_apply]
  exact congrArg (V m c main_v3) (idx_row t _ a n _ _ rfl rfl (at1 t).1 (at1 t).2)

theorem blk2 (a : Fin 256) (n : Fin 512) : ((iblk m c 2 t : Vec Ideal S256x512 .f32) (ix2 a n) : EReal) = V m c main_v4 (ix2 (row t a) n) := by
  unfold iblk
  rw [View.read_apply]
  exact congrArg (V m c main_v4) (idx_row t _ a n _ _ rfl rfl (at2 t).1 (at2 t).2)

theorem blk3 (a : Fin 256) (n : Fin 512) : ((iblk m c 3 t : Vec Ideal S256x512 .bf16) (ix2 a n) : EReal) = V m c main_v12 (ix2 (row t a) n) := by
  unfold iblk
  rw [View.read_apply]
  exact congrArg (V m c main_v12) (idx_row t _ a n _ _ rfl rfl (at3 t).1 (at3 t).2)

theorem blk4 (a : Fin 256) (n : Fin 512) : ((iblk m c 4 t : Vec Ideal S256x512 .bf16) (ix2 a n) : EReal) = V m c main_v20 (ix2 (row t a) n) := by
  unfold iblk
  rw [View.read_apply]
  exact congrArg (V m c main_v20) (idx_row t _ a n _ _ rfl rfl (at4 t).1 (at4 t).2)

theorem blk5 (a : Fin 256) (n : Fin 1024) : ((iblk m c 5 t : Vec Ideal S256x1024 .bf16) (ix2 a n) : EReal) = V m c main_v28 (ix2 (row t a) n) := by
  unfold iblk
  rw [View.read_apply]
  exact congrArg (V m c main_v28) (idx_row t _ a n _ _ rfl rfl (at5 t).1 (at5 t).2)

theorem blk6 (a : Fin 256) (n : Fin 1024) : ((iblk m c 6 t : Vec Ideal S256x1024 .bf16) (ix2 a n) : EReal) = V m c main_v36 (ix2 (row t a) n) := by
  unfold iblk
  rw [View.read_apply]
  exact congrArg (V m c main_v36) (idx_row t _ a n _ _ rfl rfl (at6 t).1 (at6 t).2)

theorem blk7 (k : Fin 512) (n : Fin 1024) : ((iblk m c 7 t : Vec Ideal S512x1024 .bf16) (ix2 k n) : EReal) = V m c main_v37 (ix2 k n) := by
  unfold iblk
  rw [View.read_apply]
  exact congrArg (V m c main_v37) (Layer.idx_whole _ k n _ _ rfl rfl (at7 t).1 (at7 t).2)

theorem blk8 (k : Fin 512) (n : Fin 1024) : ((iblk m c 8 t : Vec Ideal S512x1024 .bf16) (ix2 k n) : EReal) = V m c main_v38 (ix2 k n) := by
  unfold iblk
  rw [View.read_apply]
  exact congrArg (V m c main_v38) (Layer.idx_whole _ k n _ _ rfl rfl (at8 t).1 (at8 t).2)

theorem blk9 (k : Fin 1024) (n : Fin 1024) : ((iblk m c 9 t : Vec Ideal S1024x1024 .bf16) (ix2 k n) : EReal) = V m c main_v39 (ix2 k n) := by
  unfold iblk
  rw [View.read_apply]
  exact congrArg (V m c main_v39) (Layer.idx_whole _ k n _ _ rfl rfl (at9 t).1 (at9 t).2)

/-! ## The block a point leaves, and the array -/

/-- The block point `t` leaves, at one index: the layer's result in that row. -/
theorem out_apply (a : Fin 256) (n : Fin 1024) :
    ((out0_10 (iblk m c 0 t) (iblk m c 1 t) (iblk m c 2 t) (iblk m c 3 t) (iblk m c 4 t) (iblk m c 5 t) (iblk m c 6 t) (iblk m c 7 t) (iblk m c 8 t)
      (iblk m c 9 t) : Vec Ideal S256x1024 .f32) (ix2 a n) : EReal) = result m c (ix2 (row t a) n) := by
  unfold out0_10
  rw [View.canon_unit_zero Layer.hz]
  simp only [View.ld_unit_zero (S := S256x512) Layer.hz, View.ld_unit_zero (S := S256x1024) Layer.hz, View.ld_unit_zero (S := S512x1024) Layer.hz, View.ld_unit_zero (S := S1024x1024) Layer.hz]
  refine (pay_apply _ _ _ _ _ _ _ _ _ _ a n).trans ?_
  exact Layer.layer_of_row (ax m c) (aom m c) (aos m c) (agm m c) (ags m c) (amm m c) (ams m c) (awm m c) (aws m c) (awo m c) _ _ n
    _ _ _ _ _ _ _ (fun k j => _) (fun k j => _) _
    ((blk0 m c t a n).trans (V2 m c _ n)) (fun k => (blk1 m c t a k).trans (V3 m c _ k)) (fun k => (blk2 m c t a k).trans (V4 m c _ k))
    (fun k => (blk3 m c t a k).trans (V12 m c _ k)) (fun k => (blk4 m c t a k).trans (V20 m c _ k))
    (fun j => (blk5 m c t a j).trans (V28 m c _ j)) (fun j => (blk6 m c t a j).trans (V36 m c _ j))
    (fun k j => (blk7 m c t k j).trans (V37 m c k j)) (fun k j => (blk8 m c t k j).trans (V38 m c k j))
    (fun j => (blk9 m c t j n).trans (V39 m c j n))

theorem flushed_eq : (dats m 0 c).flushed 10 t = ((cfg0.win 10).blk t).view.read (Elt Ideal) (result m c) := by
  rw [Value.flushed10]
  funext j
  rw [View.read_apply]
  have h0 : (j 0).val < 256 := (j 0).isLt
  have h1 : (j 1).val < 1024 := (j 1).isLt
  refine Eq.trans (show _ = (out0_10 (iblk m c 0 t) (iblk m c 1 t) (iblk m c 2 t) (iblk m c 3 t) (iblk m c 4 t) (iblk m c 5 t) (iblk m c 6 t) (iblk m c 7 t)
    (iblk m c 8 t) (iblk m c 9 t) : Vec Ideal S256x1024 .f32) (ix2 ⟨(j 0).val, h0⟩ ⟨(j 1).val, h1⟩) from congrArg (out0_10 (iblk m c 0 t) (iblk m c 1 t)
    (iblk m c 2 t) (iblk m c 3 t) (iblk m c 4 t) (iblk m c 5 t) (iblk m c 6 t) (iblk m c 7 t) (iblk m c 8 t) (iblk m c 9 t)) (funext fun x => Fin.ext ?_)) ?_
  · match x with
    | ⟨0, _⟩ => rfl
    | ⟨1, _⟩ => rfl
  refine (out_apply m c t _ _).trans ?_
  exact congrArg (result m c) (idx_row t _ ⟨(j 0).val, h0⟩ ⟨(j 1).val, h1⟩ _ _ rfl rfl (at10 t).1 (at10 t).2).symm

theorem final_eq : (dats m 0 c).arrAt 10 cfg0.N = result m c :=
  (dats m 0 c).arrAt_eq_of_cover 10 (result m c) (fun t _ => flushed_eq m c t) fun i => by
    have h0 : (i 0).val < 1024 := (i 0).isLt
    have h1 : (i 1).val < 1024 := (i 1).isLt
    have ht : (i 0).val / 256 < cfg0.N := lt_of_lt_of_eq (by omega) N_0.symm
    refine ⟨⟨(i 0).val / 256, ht⟩, flush0_10 _, ?_⟩
    show i ∈ ((View.whole main_v40).slice (win0_10.rect ⟨(i 0).val / 256, ht⟩)).set
    rw [View.set_slice_whole, Rect.mem_set_unit]
    intro a
    have e0 := (at10 ⟨_, ht⟩).1
    have e1 := (at10 ⟨_, ht⟩).2
    match a with
    | ⟨0, _⟩ =>
      show win0_10.index _ 0 * 256 ≤ (i 0).val ∧ (i 0).val < win0_10.index _ 0 * 256 + 256
      rw [e0]; dsimp only; omega
    | ⟨1, _⟩ =>
      show win0_10.index _ 1 * 1024 ≤ (i 1).val ∧ (i 1).val < win0_10.index _ 1 * 1024 + 1024
      rw [e1]; omega

theorem run_value : θ_run defs (onTc (τ := τ) (main (F := Ideal))) ⟨m, fun _ => 0, ρ⟩ fun r => ∀ c : Dev nD,
      r.2.mem ((c : Thread nD τ).loc main_v40) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (final_eq m c), (h c).2⟩) (Value.run_blocks m ρ)

end Cert.FinSIdeal.Rows

namespace Cert.FinSRefIdeal.Rows

open Idealize.ShloMosaic Idealize.ShloMosaic.TcCoe Cert.FinSRefIdeal Cert.FinSRefIdeal.Gen

/-- The reference's array is the layer's result, row by row. -/
theorem ref_eq (x : FVec Ideal S128x8x1024 .f32) (om os : FVec Ideal S128x8x8x64 .f32) (gm gs : FVec Ideal S128x8x512 .f32)
    (mm ms : FVec Ideal S128x8x1024 .f32) (wm ws : FVec Ideal S512x1024 .f32) (wo : FVec Ideal S1024x1024 .f32) :
    (shapeCast S1024x1024 (addf x (Host.dotGeneral dot_S128x8x1024_S1024x1024_S128x8x1024_2_0_01_1_n_n none (addf (mulf (Host.divf (broadcastInDim S128x8x1024 ![] bcast_S_S128x8x1024 (constant S_ .f32 0x3F800000#32)) (addf (broadcastInDim S128x8x1024 ![] bcast_S_S128x8x1024 (constant S_ .f32 0x3F800000#32)) (Host.exp (Host.negf mm)))) (Host.dotGeneral dot_S128x8x512_S512x1024_S128x8x1024_2_0_01_1_n_n none (mulf (shapeCast S128x8x512 om shapeCasts_S128x8x8x64_S128x8x512) (mulf gm (Host.divf (broadcastInDim S128x8x512 ![] bcast_S_S128x8x512 (constant S_ .f32 0x3F800000#32)) (addf (broadcastInDim S128x8x512 ![] bcast_S_S128x8x512 (constant S_ .f32 0x3F800000#32)) (Host.exp (Host.negf gm)))))) wm)) (mulf (Host.divf (broadcastInDim S128x8x1024 ![] bcast_S_S128x8x1024 (constant S_ .f32 0x3F800000#32)) (addf (broadcastInDim S128x8x1024 ![] bcast_S_S128x8x1024 (constant S_ .f32 0x3F800000#32)) (Host.exp (Host.negf ms)))) (Host.dotGeneral dot_S128x8x512_S512x1024_S128x8x1024_2_0_01_1_n_n none (mulf (shapeCast S128x8x512 os shapeCasts_S128x8x8x64_S128x8x512) (mulf gs (Host.divf (broadcastInDim S128x8x512 ![] bcast_S_S128x8x512 (constant S_ .f32 0x3F800000#32)) (addf (broadcastInDim S128x8x512 ![] bcast_S_S128x8x512 (constant S_ .f32 0x3F800000#32)) (Host.exp (Host.negf gs)))))) ws))) wo)) shapeCasts_S128x8x1024_S1024x1024 : FVec Ideal S1024x1024 .f32) = Layer.rows 1024 Layer.rows_sample x om os gm gs mm ms wm ws wo := by
  funext i
  have hi : i = ix2 (i 0) (i 1) := funext fun x => by match x with | ⟨0, _⟩ => rfl | ⟨1, _⟩ => rfl
  rw [hi]
  generalize (i 0 : Fin 1024) = r
  generalize (i 1 : Fin 1024) = n
  pointwise []
  rfl

end Cert.FinSRefIdeal.Rows

end
-- ==== Proof.lean ====
/-
  Everything claimed of the causal attention and of the call that finishes the layer, over the prompt and over the sample:
  the frames, with and without the condition on the attention's arguments, and the values against the plain references.
-/
module

public import proofs.«01_k».proof.Defs
public import proofs.«01_k».proof.Proof.Gen.Mla
public import proofs.«01_k».proof.Proof.Gen.Mla.Skeleton
public import proofs.«01_k».proof.Proof.Gen.Mla.Loops
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.MlaRefIdeal.Run
public import proofs.«01_k».proof.Proof.Gen.FinP
public import proofs.«01_k».proof.Proof.Gen.FinP.Frame
public import proofs.«01_k».proof.Proof.Gen.FinPIdeal
public import proofs.«01_k».proof.Proof.Gen.FinPIdeal.Frame
public import proofs.«01_k».proof.Proof.Gen.FinPIdeal.Value
public import proofs.«01_k».proof.Proof.Gen.FinS
public import proofs.«01_k».proof.Proof.Gen.FinS.Frame
public import proofs.«01_k».proof.Proof.Gen.FinSIdeal
public import proofs.«01_k».proof.Proof.Gen.FinSIdeal.Frame
public import proofs.«01_k».proof.Proof.Gen.FinSIdeal.Value
public import proofs.«01_k».proof.Proof.Gen.FinPRefIdeal
public import proofs.«01_k».proof.Proof.Gen.FinPRefIdeal.Run
public import proofs.«01_k».proof.Proof.Gen.FinSRefIdeal
public import proofs.«01_k».proof.Proof.Gen.FinSRefIdeal.Run
public import proofs.«01_k».proof.Proof.Frames
public import proofs.«01_k».proof.Proof.Value
public import proofs.«01_k».proof.Proof.Ref
public import proofs.«01_k».proof.Proof.Finite
public import proofs.«01_k».proof.Proof.LayerPrompt
public import proofs.«01_k».proof.Proof.LayerSample
public import Idealize.ShloMosaic.Adequacy
public import Idealize.ShloMosaic.Init

@[expose] public section

noncomputable section

namespace Cert.Proof

open Idealize.ShloMosaic Idealize.SL.Sem

/-- The reference leaves the array that the kernel leaves. -/
theorem ref_eq (m : (ℓ : Loc Cert.MlaIdeal.nD Cert.MlaIdeal.τ Cert.MlaIdeal.sig) → Buf (Elt Ideal) ℓ)
    (m' : (ℓ : Loc Cert.MlaRefIdeal.nD Cert.MlaRefIdeal.τ Cert.MlaRefIdeal.sig) → Buf (Elt Ideal) ℓ) (c : Dev Cert.MlaIdeal.nD)
    (e0 : m' ((c.tc : Thread Cert.MlaRefIdeal.nD Cert.MlaRefIdeal.τ).loc Cert.MlaRefIdeal.main_arg0) = Cert.MlaIdeal.Att.aq m c)
    (e1 : m' ((c.tc : Thread Cert.MlaRefIdeal.nD Cert.MlaRefIdeal.τ).loc Cert.MlaRefIdeal.main_arg1) = Cert.MlaIdeal.Att.aqr m c)
    (e2 : m' ((c.tc : Thread Cert.MlaRefIdeal.nD Cert.MlaRefIdeal.τ).loc Cert.MlaRefIdeal.main_arg2) = Cert.MlaIdeal.Att.akv m c)
    (e3 : m' ((c.tc : Thread Cert.MlaRefIdeal.nD Cert.MlaRefIdeal.τ).loc Cert.MlaRefIdeal.main_arg3) = Cert.MlaIdeal.Att.aw m c)
    (hq : Spec.AllReal Spec.SQ (Cert.MlaIdeal.Att.aq m c)) (hqr : Spec.AllReal Spec.SR (Cert.MlaIdeal.Att.aqr m c))
    (hkv : Spec.AllReal Spec.SK (Cert.MlaIdeal.Att.akv m c)) :
    Cert.MlaRefIdeal.Value.res_main_v32 (F := Ideal) m' c = Cert.MlaIdeal.Att.result m c := by
  funext i
  have hi : i = ix2 (i 0) (i 1) := funext fun x => by match x with | ⟨0, _⟩ => rfl | ⟨1, _⟩ => rfl
  rw [hi]
  refine (Cert.MlaRefIdeal.Att.res_apply m' c (by rw [e0]; exact hq) (by rw [e1]; exact hqr) (by rw [e2]; exact hkv) (i 0) (i 1)).trans ?_
  rw [e0, e1, e2, e3]
  rfl

theorem value : Cert.algebraic_MlaIdeal_MlaRefIdeal_pre_finite (hMlaIdeal := Cert.MlaIdeal.Gen.facts)
    (hMlaRefIdeal := Cert.MlaRefIdeal.Gen.facts) (hPre_finite := Cert.Pre_finite.facts) := fun m g m' g' hp hm => by
  have hr : ∀ c, Spec.AllReal Spec.SQ (Cert.MlaIdeal.Att.aq m c) ∧ Spec.AllReal Spec.SR (Cert.MlaIdeal.Att.aqr m c)
      ∧ Spec.AllReal Spec.SK (Cert.MlaIdeal.Att.akv m c) := fun c =>
    ⟨Cert.Pre_finite.real0 _ _ _ _ (hp c).1, Cert.Pre_finite.real1 _ _ _ _ (hp c).2.1, Cert.Pre_finite.real2 _ _ _ _ (hp c).2.2⟩
  refine ⟨fun c => Cert.MlaIdeal.Att.result m c, Cert.MlaIdeal.Att.run_value m g hr, ?_⟩
  refine (θ_run Cert.MlaRefIdeal.defs _ _).mono (fun r h c => ⟨(h c).1.trans ?_, (h c).2⟩) (Cert.MlaRefIdeal.Value.run (F := Ideal) m' g')
  exact ref_eq m m' c (hm c).1 (hm c).2.1 (hm c).2.2.1 (hm c).2.2.2 (hr c).1 (hr c).2.1 (hr c).2.2

/-- The frame of the prompt's last call's reference. -/
theorem frame_FinPRefIdeal : Cert.quiescent_FinPRefIdeal (hFinPRefIdeal := Cert.FinPRefIdeal.Gen.facts) := fun m ρ _ =>
  (θ_run Cert.FinPRefIdeal.defs _ _).mono (fun r h => ⟨fun c => (h c).2, sem_eq_zero_of_no_sems (by decide) r.2⟩)
    (Cert.FinPRefIdeal.Value.run (F := Ideal) m ρ)

/-- The prompt's last call and its reference leave the layer's result. -/
theorem value_prompt : Cert.algebraic_FinPIdeal_FinPRefIdeal (hFinPIdeal := Cert.FinPIdeal.Gen.facts) (hFinPRefIdeal := Cert.FinPRefIdeal.Gen.facts) :=
  fun m g m' g' _ hm => by
  refine ⟨fun c => Cert.FinPIdeal.Rows.result m c, Cert.FinPIdeal.Rows.run_value m g, ?_⟩
  refine (θ_run Cert.FinPRefIdeal.defs _ _).mono (fun r h c => ⟨(h c).1.trans ?_, (h c).2⟩) (Cert.FinPRefIdeal.Value.run (F := Ideal) m' g')
  obtain ⟨e0, e1, e2, e3, e4, e5, e6, e7, e8, e9⟩ := hm c
  refine (Cert.FinPRefIdeal.Rows.ref_eq _ _ _ _ _ _ _ _ _ _).trans ?_
  rw [e0, e1, e2, e3, e4, e5, e6, e7, e8, e9]
  rfl

/-- The frame of the sample's last call's reference. -/
theorem frame_FinSRefIdeal : Cert.quiescent_FinSRefIdeal (hFinSRefIdeal := Cert.FinSRefIdeal.Gen.facts) := fun m ρ _ =>
  (θ_run Cert.FinSRefIdeal.defs _ _).mono (fun r h => ⟨fun c => (h c).2, sem_eq_zero_of_no_sems (by decide) r.2⟩)
    (Cert.FinSRefIdeal.Value.run (F := Ideal) m ρ)

/-- The sample's last call and its reference leave the layer's result. -/
theorem value_sample : Cert.algebraic_FinSIdeal_FinSRefIdeal (hFinSIdeal := Cert.FinSIdeal.Gen.facts) (hFinSRefIdeal := Cert.FinSRefIdeal.Gen.facts) :=
  fun m g m' g' _ hm => by
  refine ⟨fun c => Cert.FinSIdeal.Rows.result m c, Cert.FinSIdeal.Rows.run_value m g, ?_⟩
  refine (θ_run Cert.FinSRefIdeal.defs _ _).mono (fun r h c => ⟨(h c).1.trans ?_, (h c).2⟩) (Cert.FinSRefIdeal.Value.run (F := Ideal) m' g')
  obtain ⟨e0, e1, e2, e3, e4, e5, e6, e7, e8, e9⟩ := hm c
  refine (Cert.FinSRefIdeal.Rows.ref_eq _ _ _ _ _ _ _ _ _ _).trans ?_
  rw [e0, e1, e2, e3, e4, e5, e6, e7, e8, e9]
  rfl

theorem claim : Cert.Claim :=
  ⟨Cert.Mla.Gen.facts, Cert.MlaIdeal.Gen.facts, Cert.MlaRefIdeal.Gen.facts, Cert.FinP.Gen.facts, Cert.FinPIdeal.Gen.facts, Cert.FinPRefIdeal.Gen.facts,
    Cert.FinS.Gen.facts, Cert.FinSIdeal.Gen.facts, Cert.FinSRefIdeal.Gen.facts, Cert.Pre_finite.facts,
    frame_Mla, frame_MlaIdeal, fun m g _ => frame_MlaIdeal m g trivial, frame_MlaRefIdeal, fun m g _ => frame_MlaRefIdeal m g trivial,
    fun m ρ _ => Cert.FinP.Gen.frame m ρ, fun m ρ _ => Cert.FinPIdeal.Gen.frame m ρ, frame_FinPRefIdeal,
    fun m ρ _ => Cert.FinS.Gen.frame m ρ, fun m ρ _ => Cert.FinSIdeal.Gen.frame m ρ, frame_FinSRefIdeal,
    trivial, value, trivial, value_prompt, trivial, value_sample⟩

end Cert.Proof

end
